-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 256, 4, 64]⟩ ⟨4, ![2, 256, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x4x64 : S_.BroadcastsInDim S2x256x4x64 (![] : Fin 0 → Fin S2x256x4x64.rank)
  reducesTo_S2x256x4x64_S_d0_1_2_3 : S2x256x4x64.ReducesTo [0, 1, 2, 3] S_

variable [Facts]

def fn {F : FTy → Type} [FloatOps F] (main_arg0 : FVec F S2x256x512 .bf16) (main_arg1 : FVec F S512x1024 .bf16) (main_arg2 : FVec F S2x256x4x64 .bf16) (main_arg3 : FVec F S2x256x4x64 .bf16) (main_arg4 : FVec F S1024x512 .bf16) : IVec S_ 1 × IVec S_ 1 × IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : FVec F S2x256x4x64 .f32 := (extf .f32 · bitsLt_bf16_f32) main_arg2
  let main_v11 : FVec F S2x256x4x64 .f32 := Host.absf main_v10
  let main_cst_2 : FVec F S_ .f32 := constant S_ .f32 0x7F800000#32
  let main_v12 : FVec F S2x256x4x64 .f32 := broadcastInDim S2x256x4x64 ![] bcast_S_S2x256x4x64 main_cst_2
  let main_v13 : IVec S2x256x4x64 1 := cmpf .olt main_v11 main_v12
  let main_c_3 : IVec S_ 1 := constantI S_ 1 1#1
  let main_v14 : IVec S_ 1 := (fun x v => Host.reduce IntOp.andi x v reducesTo_S2x256x4x64_S_d0_1_2_3 h_S_) main_v13 main_c_3
  (main_v4, main_v9, main_v14)
-- ==== Pre_scores_finite_ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S_ : Shape := ⟨0, ![]⟩

class Facts : Prop where
  bitsLt_bf16_f32 : FTy.bits .bf16 < FTy.bits .f32
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x256x16x64 : S_.BroadcastsInDim S2x256x16x64 (![] : Fin 0 → Fin S2x256x16x64.rank)
  reducesTo_S2x256x16x64_S_d0_1_2_3 : S2x256x16x64.ReducesTo [0, 1, 2, 3] S_

variable [Facts]

def fn {F : FTy → Type} [FloatOps F] (main_arg0 : FVec F S2x256x512 .bf16) (main_arg1 : FVec F S512x1024 .bf16) (main_arg2 : FVec F S2x256x16x64 .bf16) (main_arg3 : FVec F S2x256x16x64 .bf16) (main_arg4 : FVec F S1024x512 .bf16) : IVec S_ 1 × IVec S_ 1 × IVec S_ 1 :=
  let main_v0 : FVec F S2x256x512 .f32 := (extf .f32 · bitsLt_bf16_f32) main_arg0
  let main_v1 : FVec F S2x256x512 .f32 := Host.absf main_v0
  let main_cst : FVec F S_ .f32 := constant S_ .f32 0x7F800000#32
  let main_v2 : FVec F S2x256x512 .f32 := broadcastInDim S2x256x512 ![] bcast_S_S2x256x512 main_cst
  let main_v3 : IVec S2x256x512 1 := cmpf .olt main_v1 main_v2
  let main_c : IVec S_ 1 := constantI S_ 1 1#1
  let main_v4 : IVec S_ 1 := (fun x v => Host.reduce IntOp.andi x v reducesTo_S2x256x512_S_d0_1_2 h_S_) main_v3 main_c
  let main_v5 : FVec F S512x1024 .f32 := (extf .f32 · bitsLt_bf16_f32) main_arg1
  let main_v6 : FVec F S512x1024 .f32 := Host.absf main_v5
  let main_cst_0 : FVec F S_ .f32 := constant S_ .f32 0x7F800000#32
  let main_v7 : FVec F S512x1024 .f32 := broadcastInDim S512x1024 ![] bcast_S_S512x1024 main_cst_0
  let main_v8 : IVec S512x1024 1 := cmpf .olt main_v6 main_v7
  let main_c_1 : IVec S_ 1 := constantI S_ 1 1#1
  let main_v9 : IVec S_ 1 := (fun x v => Host.reduce IntOp.andi x v reducesTo_S512x1024_S_d0_1 h_S_) main_v8 main_c_1
  let main_v10 : FVec F S2x256x16x64 .f32 := (extf .f32 · bitsLt_bf16_f32) main_arg2
  let main_v11 : FVec F S2x256x16x64 .f32 := Host.absf main_v10
  let main_cst_2 : FVec F S_ .f32 := constant S_ .f32 0x7F800000#32
  let main_v12 : FVec F S2x256x16x64 .f32 := broadcastInDim S2x256x16x64 ![] bcast_S_S2x256x16x64 main_cst_2
  let main_v13 : IVec S2x256x16x64 1 := cmpf .olt main_v11 main_v12
  let main_c_3 : IVec S_ 1 := constantI S_ 1 1#1
  let main_v14 : IVec S_ 1 := (fun x v => Host.reduce IntOp.andi x v reducesTo_S2x256x16x64_S_d0_1_2_3 h_S_) main_v13 main_c_3
  (main_v4, main_v9, main_v14)
-- ==== Kernel.lean ====
abbrev S2x256x512 : Shape := ⟨3, ![2, 256, 512]⟩
abbrev S512x1024 : Shape := ⟨2, ![512, 1024]⟩
abbrev S2x256x4x64 : Shape := ⟨4, ![2, 256, 4, 64]⟩
abbrev S1024x512 : Shape := ⟨2, ![1024, 512]⟩
abbrev S_ : Shape := ⟨0, ![]⟩
abbrev S512x256 : Shape := ⟨2, ![512, 256]⟩
abbrev S2x256x256 : Shape := ⟨3, ![2, 256, 256]⟩
abbrev S3x512x256 : Shape := ⟨3, ![3, 512, 256]⟩
abbrev S3x2 : Shape := ⟨2, ![3, 2]⟩
abbrev S512x512 : Shape := ⟨2, ![512, 512]⟩
abbrev S4x1x256 : Shape := ⟨3, ![4, 1, 256]⟩
abbrev S256x256 : Shape := ⟨2, ![256, 256]⟩
abbrev S1x256x256 : Shape := ⟨3, ![1, 256, 256]⟩
abbrev S128x256 : Shape := ⟨2, ![128, 256]⟩
abbrev S192x256 : Shape := ⟨2, ![192, 256]⟩
abbrev S64x256 : Shape := ⟨2, ![64, 256]⟩
abbrev S1x128x256 : Shape := ⟨3, ![1, 128, 256]⟩
abbrev S4x128x256 : Shape := ⟨3, ![4, 128, 256]⟩
abbrev S512x192 : Shape := ⟨2, ![512, 192]⟩
abbrev S512 : Shape := ⟨1, ![512]⟩
abbrev S512x1 : Shape := ⟨2, ![512, 1]⟩
abbrev S512x128 : Shape := ⟨2, ![512, 128]⟩
abbrev S1x1 : Shape := ⟨2, ![1, 1]⟩
abbrev S256x512 : Shape := ⟨2, ![256, 512]⟩
abbrev S1x512x256 : Shape := ⟨3, ![1, 512, 256]⟩

abbrev nBuf : Space → Nat
  | .hbm => 23
  | .vmem => 8
  | .smem => 0
  | _ => 0

abbrev bufTy : (tb : Table) → Fin (tcTables nBuf tb) → BufTy
  | .hbm, ⟨0, _⟩ => ⟨S2x256x512, .bf16⟩
  | .hbm, ⟨1, _⟩ => ⟨S512x1024, .bf16⟩
  | .hbm, ⟨2, _⟩ => ⟨S2x256x4x64, .bf16⟩
  | .hbm, ⟨3, _⟩ => ⟨S2x256x4x64, .bf16⟩
  | .hbm, ⟨4, _⟩ => ⟨S1024x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .bf16⟩
  | .hbm, ⟨20, _⟩ => ⟨S2x256x256, .bf16⟩
  | .hbm, ⟨21, _⟩ => ⟨S2x256x256, .bf16⟩
  | .hbm, ⟨22, _⟩ => ⟨S2x256x512, .bf16⟩
  | .local _ .vmem, ⟨0, _⟩ => ⟨S2x256x512, .bf16⟩
  | .local _ .vmem, ⟨1, _⟩ => ⟨S512x256, .bf16⟩
  | .local _ .vmem, ⟨2, _⟩ => ⟨S2x256x256, .bf16⟩
  | .local _ .vmem, ⟨3, _⟩ => ⟨S2x256x256, .bf16⟩
  | .local _ .vmem, ⟨4, _⟩ => ⟨S1024x512, .bf16⟩
  | .local _ .vmem, ⟨5, _⟩ => ⟨S2x256x512, .bf16⟩
  | .local _ .vmem, ⟨6, _⟩ => ⟨S512x256, .bf16⟩
  | .local _ .vmem, ⟨7, _⟩ => ⟨S3x512x256, .bf16⟩
  | _, _ => ⟨S2x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_59 : BitVec 32 := 1#32
  let v153 : BitVec 32 := Scalar.addi v2 c1_i32_59
  let c4_i32_60 : BitVec 32 := 4#32
  let c0_i32_61 : BitVec 32 := 0#32
  let v154 : BitVec 1 := Scalar.cmpi .eq c4_i32_60 c0_i32_61
  let c1_i32_62 : BitVec 32 := 1#32
  let v155 : BitVec 32 := Scalar.select v154 c1_i32_62 c4_i32_60
  let v156 : BitVec 32 := Scalar.remsi v153 v155
  let c0_i32_64 : BitVec 32 := 0#32
  let v158 : BitVec 1 := Scalar.cmpi .slt v156 c0_i32_64
  let c0_i32_65 : BitVec 32 := 0#32
  let v159 : BitVec 1 := Scalar.cmpi .slt v155 c0_i32_65
  let v160 : BitVec 1 := Scalar.xori v158 v159
  let c0_i32_63 : BitVec 32 := 0#32
  let v157 : BitVec 1 := Scalar.cmpi .ne v156 c0_i32_63
  let v161 : BitVec 1 := Scalar.andi v160 v157
  let v162 : BitVec 32 := Scalar.addi v156 v155
  let v163 : BitVec 32 := Scalar.select v161 v162 v156
  let c1_i32_71 : BitVec 32 := 1#32
  let v164 : BitVec 32 := Scalar.muli v163 c1_i32_71
  let v165 : BitVec 32 := Scalar.addi c0_i32_72 v164
  v165.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_77 : BitVec 32 := 2#32
  let v173 : BitVec 32 := Scalar.addi v2 c2_i32_77
  let c4_i32_78 : BitVec 32 := 4#32
  let c0_i32_79 : BitVec 32 := 0#32
  let v174 : BitVec 1 := Scalar.cmpi .eq c4_i32_78 c0_i32_79
  let c1_i32_80 : BitVec 32 := 1#32
  let v175 : BitVec 32 := Scalar.select v174 c1_i32_80 c4_i32_78
  let v176 : BitVec 32 := Scalar.remsi v173 v175
  let c0_i32_82 : BitVec 32 := 0#32
  let v178 : BitVec 1 := Scalar.cmpi .slt v176 c0_i32_82
  let c0_i32_83 : BitVec 32 := 0#32
  let v179 : BitVec 1 := Scalar.cmpi .slt v175 c0_i32_83
  let v180 : BitVec 1 := Scalar.xori v178 v179
  let c0_i32_81 : BitVec 32 := 0#32
  let v177 : BitVec 1 := Scalar.cmpi .ne v176 c0_i32_81
  let v181 : BitVec 1 := Scalar.andi v180 v177
  let v182 : BitVec 32 := Scalar.addi v176 v175
  let v183 : BitVec 32 := Scalar.select v181 v182 v176
  let c1_i32_89 : BitVec 32 := 1#32
  let v184 : BitVec 32 := Scalar.muli v183 c1_i32_89
  let v185 : BitVec 32 := Scalar.addi c0_i32_90 v184
  v185.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_95 : BitVec 32 := 3#32
  let v193 : BitVec 32 := Scalar.addi v2 c3_i32_95
  let c4_i32_96 : BitVec 32 := 4#32
  let c0_i32_97 : BitVec 32 := 0#32
  let v194 : BitVec 1 := Scalar.cmpi .eq c4_i32_96 c0_i32_97
  let c1_i32_98 : BitVec 32 := 1#32
  let v195 : BitVec 32 := Scalar.select v194 c1_i32_98 c4_i32_96
  let v196 : BitVec 32 := Scalar.remsi v193 v195
  let c0_i32_100 : BitVec 32 := 0#32
  let v198 : BitVec 1 := Scalar.cmpi .slt v196 c0_i32_100
  let c0_i32_101 : BitVec 32 := 0#32
  let v199 : BitVec 1 := Scalar.cmpi .slt v195 c0_i32_101
  let v200 : BitVec 1 := Scalar.xori v198 v199
  let c0_i32_99 : BitVec 32 := 0#32
  let v197 : BitVec 1 := Scalar.cmpi .ne v196 c0_i32_99
  let v201 : BitVec 1 := Scalar.andi v200 v197
  let v202 : BitVec 32 := Scalar.addi v196 v195
  let v203 : BitVec 32 := Scalar.select v201 v202 v196
  let c1_i32_107 : BitVec 32 := 1#32
  let v204 : BitVec 32 := Scalar.muli v203 c1_i32_107
  let v205 : BitVec 32 := Scalar.addi c0_i32_108 v204
  v205.toNat
def k0_dev7 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_131 : BitVec 32 := 1#32
  let v284 : BitVec 32 := Scalar.addi v2 c1_i32_131
  let c4_i32_132 : BitVec 32 := 4#32
  let c0_i32_133 : BitVec 32 := 0#32
  let v285 : BitVec 1 := Scalar.cmpi .eq c4_i32_132 c0_i32_133
  let c1_i32_134 : BitVec 32 := 1#32
  let v286 : BitVec 32 := Scalar.select v285 c1_i32_134 c4_i32_132
  let v287 : BitVec 32 := Scalar.remsi v284 v286
  let c0_i32_136 : BitVec 32 := 0#32
  let v289 : BitVec 1 := Scalar.cmpi .slt v287 c0_i32_136
  let c0_i32_137 : BitVec 32 := 0#32
  let v290 : BitVec 1 := Scalar.cmpi .slt v286 c0_i32_137
  let v291 : BitVec 1 := Scalar.xori v289 v290
  let c0_i32_135 : BitVec 32 := 0#32
  let v288 : BitVec 1 := Scalar.cmpi .ne v287 c0_i32_135
  let v292 : BitVec 1 := Scalar.andi v291 v288
  let v293 : BitVec 32 := Scalar.addi v287 v286
  let v294 : BitVec 32 := Scalar.select v292 v293 v287
  let c1_i32_143 : BitVec 32 := 1#32
  let v295 : BitVec 32 := Scalar.muli v294 c1_i32_143
  let v296 : BitVec 32 := Scalar.addi c0_i32_144 v295
  v296.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_148 : BitVec 32 := 2#32
  let v304 : BitVec 32 := Scalar.addi v2 c2_i32_148
  let c4_i32_149 : BitVec 32 := 4#32
  let c0_i32_150 : BitVec 32 := 0#32
  let v305 : BitVec 1 := Scalar.cmpi .eq c4_i32_149 c0_i32_150
  let c1_i32_151 : BitVec 32 := 1#32
  let v306 : BitVec 32 := Scalar.select v305 c1_i32_151 c4_i32_149
  let v307 : BitVec 32 := Scalar.remsi v304 v306
  let c0_i32_153 : BitVec 32 := 0#32
  let v309 : BitVec 1 := Scalar.cmpi .slt v307 c0_i32_153
  let c0_i32_154 : BitVec 32 := 0#32
  let v310 : BitVec 1 := Scalar.cmpi .slt v306 c0_i32_154
  let v311 : BitVec 1 := Scalar.xori v309 v310
  let c0_i32_152 : BitVec 32 := 0#32
  let v308 : BitVec 1 := Scalar.cmpi .ne v307 c0_i32_152
  let v312 : BitVec 1 := Scalar.andi v311 v308
  let v313 : BitVec 32 := Scalar.addi v307 v306
  let v314 : BitVec 32 := Scalar.select v312 v313 v307
  let c1_i32_160 : BitVec 32 := 1#32
  let v315 : BitVec 32 := Scalar.muli v314 c1_i32_160
  let v316 : BitVec 32 := Scalar.addi c0_i32_161 v315
  v316.toNat
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_166 : BitVec 32 := 3#32
  let v324 : BitVec 32 := Scalar.addi v2 c3_i32_166
  let c4_i32_167 : BitVec 32 := 4#32
  let c0_i32_168 : BitVec 32 := 0#32
  let v325 : BitVec 1 := Scalar.cmpi .eq c4_i32_167 c0_i32_168
  let c1_i32_169 : BitVec 32 := 1#32
  let v326 : BitVec 32 := Scalar.select v325 c1_i32_169 c4_i32_167
  let v327 : BitVec 32 := Scalar.remsi v324 v326
  let c0_i32_171 : BitVec 32 := 0#32
  let v329 : BitVec 1 := Scalar.cmpi .slt v327 c0_i32_171
  let c0_i32_172 : BitVec 32 := 0#32
  let v330 : BitVec 1 := Scalar.cmpi .slt v326 c0_i32_172
  let v331 : BitVec 1 := Scalar.xori v329 v330
  let c0_i32_170 : BitVec 32 := 0#32
  let v328 : BitVec 1 := Scalar.cmpi .ne v327 c0_i32_170
  let v332 : BitVec 1 := Scalar.andi v331 v328
  let v333 : BitVec 32 := Scalar.addi v327 v326
  let v334 : BitVec 32 := Scalar.select v332 v333 v327
  let c1_i32_178 : BitVec 32 := 1#32
  let v335 : BitVec 32 := Scalar.muli v334 c1_i32_178
  let v336 : BitVec 32 := Scalar.addi c0_i32_179 v335
  v336.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_184 : BitVec 32 := 256#32
  let v344 : BitVec 32 := Scalar.muli v2 c256_i32_184
  let v345 : Index := Scalar.indexCast v344
  let c0_185 : Index := 0#32
  ![v345.toNat, 0]
def k0_off2 (d0 : Dev nD) (c1_i32_211 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v364 : BitVec 32 := Scalar.subi v2 c1_i32_211
  let c4_i32_212 : BitVec 32 := 4#32
  let c0_i32_213 : BitVec 32 := 0#32
  let v365 : BitVec 1 := Scalar.cmpi .eq c4_i32_212 c0_i32_213
  let c1_i32_214 : BitVec 32 := 1#32
  let v366 : BitVec 32 := Scalar.select v365 c1_i32_214 c4_i32_212
  let v367 : BitVec 32 := Scalar.remsi v364 v366
  let c0_i32_216 : BitVec 32 := 0#32
  let v369 : BitVec 1 := Scalar.cmpi .slt v367 c0_i32_216
  let c0_i32_217 : BitVec 32 := 0#32
  let v370 : BitVec 1 := Scalar.cmpi .slt v366 c0_i32_217
  let v371 : BitVec 1 := Scalar.xori v369 v370
  let c0_i32_215 : BitVec 32 := 0#32
  let v368 : BitVec 1 := Scalar.cmpi .ne v367 c0_i32_215
  let v372 : BitVec 1 := Scalar.andi v371 v368
  let v373 : BitVec 32 := Scalar.addi v367 v366
  let v374 : BitVec 32 := Scalar.select v372 v373 v367
  let c256_i32_218 : BitVec 32 := 256#32
  let v375 : BitVec 32 := Scalar.muli v374 c256_i32_218
  let v376 : Index := Scalar.indexCast v375
  let c0_219 : Index := 0#32
  ![v376.toNat, 0]
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x256x512 : Shape := ⟨3, ![2, 256, 512]⟩
abbrev S512x1024 : Shape := ⟨2, ![512, 1024]⟩
abbrev S2x256x16x64 : Shape := ⟨4, ![2, 256, 16, 64]⟩
abbrev S1024x512 : Shape := ⟨2, ![1024, 512]⟩
abbrev S2x256x1024 : Shape := ⟨3, ![2, 256, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S2x16x256x256 : Shape := ⟨4, ![2, 16, 256, 256]⟩
abbrev S1x1x256x256 : Shape := ⟨4, ![1, 1, 256, 256]⟩
abbrev S2x16x256 : Shape := ⟨3, ![2, 16, 256]⟩
abbrev S2x16x256x1 : Shape := ⟨4, ![2, 16, 256, 1]⟩
abbrev S1x1x256x1 : Shape := ⟨4, ![1, 1, 256, 1]⟩
abbrev S2x16x64x256 : Shape := ⟨4, ![2, 16, 64, 256]⟩

abbrev nBuf : Space → Nat
  | .hbm => 129
  | .vmem => 0
  | .smem => 0
  | _ => 0

abbrev hbmTy0_0 (i : Nat) : BufTy := match i % 128 with
  | 0 => ⟨S2x256x512, .bf16⟩
  | 1 => ⟨S512x1024, .bf16⟩
  | 2 => ⟨S2x256x16x64, .bf16⟩
  | 3 => ⟨S2x256x16x64, .bf16⟩
  | 4 => ⟨S1024x512, .bf16⟩
  | 5 => ⟨S2x256x1024, .f32⟩
  | 6 => ⟨S2x256x1024, .bf16⟩
  | 7 => ⟨S2x256x16x64, .bf16⟩
  | 8 => ⟨S256, .i32⟩
  | 9 => ⟨S_, .i32⟩
  | 10 => ⟨S_, .i32⟩
  | 11 => ⟨S256, .i32⟩
  | 12 => ⟨S256, .i32⟩
  | 13 => ⟨S256, .i32⟩
  | 14 => ⟨S_, .i32⟩
  | 15 => ⟨S256, .i32⟩
  | 16 => ⟨S256, .i1⟩
  | 17 => ⟨S256, .i32⟩
  | 18 => ⟨S256, .i32⟩
  | 19 => ⟨S_, .i32⟩
  | 20 => ⟨S256, .i32⟩
  | 21 => ⟨S256, .i1⟩
  | 22 => ⟨S256, .i1⟩
  | 23 => ⟨S_, .i32⟩
  | 24 => ⟨S256, .i32⟩
  | 25 => ⟨S256, .i32⟩
  | 26 => ⟨S256, .i32⟩
  | 27 => ⟨S256x1, .i32⟩
  | 28 => ⟨S256, .i32⟩
  | 29 => ⟨S_, .i32⟩
  | 30 => ⟨S_, .i32⟩
  | 31 => ⟨S256, .i32⟩
  | 32 => ⟨S256, .i32⟩
  | 33 => ⟨S256, .i32⟩
  | 34 => ⟨S_, .i32⟩
  | 35 => ⟨S256, .i32⟩
  | 36 => ⟨S256, .i1⟩
  | 37 => ⟨S256, .i32⟩
  | 38 => ⟨S256, .i32⟩
  | 39 => ⟨S_, .i32⟩
  | 40 => ⟨S256, .i32⟩
  | 41 => ⟨S256, .i1⟩
  | 42 => ⟨S256, .i1⟩
  | 43 => ⟨S_, .i32⟩
  | 44 => ⟨S256, .i32⟩
  | 45 => ⟨S256, .i32⟩
  | 46 => ⟨S256, .i32⟩
  | 47 => ⟨S1x256, .i32⟩
  | 48 => ⟨S256x256, .i32⟩
  | 49 => ⟨S256x256, .i32⟩
  | 50 => ⟨S256x256, .i1⟩
  | 51 => ⟨S_, .i32⟩
  | 52 => ⟨S1x256, .i32⟩
  | 53 => ⟨S1x256, .i1⟩
  | 54 => ⟨S256x256, .i1⟩
  | 55 => ⟨S256x256, .i1⟩
  | 56 => ⟨S256x256, .i32⟩
  | 57 => ⟨S256x256, .i32⟩
  | 58 => ⟨S256x256, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S256x256, .i32⟩
  | 66 => ⟨S256x256, .i32⟩
  | 67 => ⟨S_, .i32⟩
  | 68 => ⟨S256x256, .i32⟩
  | 69 => ⟨S256x256, .i1⟩
  | 70 => ⟨S_, .i32⟩
  | 71 => ⟨S256x256, .i32⟩
  | 72 => ⟨S256x256, .i1⟩
  | 73 => ⟨S_, .i32⟩
  | 74 => ⟨S_, .i1⟩
  | 75 => ⟨S256x256, .i1⟩
  | 76 => ⟨S256x256, .i1⟩
  | 77 => ⟨S256x256, .i1⟩
  | 78 => ⟨S256x256, .i32⟩
  | 79 => ⟨S256x256, .i32⟩
  | 80 => ⟨S256x256, .i32⟩
  | 81 => ⟨S_, .i32⟩
  | 82 => ⟨S256x256, .i32⟩
  | 83 => ⟨S256x256, .i1⟩
  | 84 => ⟨S256x256, .i1⟩
  | 85 => ⟨S2x16x256x256, .f32⟩
  | 86 => ⟨S2x16x256x256, .bf16⟩
  | 87 => ⟨S2x16x256x256, .f32⟩
  | 88 => ⟨S_, .f32⟩
  | 89 => ⟨S2x16x256x256, .f32⟩
  | 90 => ⟨S2x16x256x256, .f32⟩
  | 91 => ⟨S1x1x256x256, .i1⟩
  | 92 => ⟨S_, .f32⟩
  | 93 => ⟨S_, .f32⟩
  | 94 => ⟨S2x16x256x256, .i1⟩
  | 95 => ⟨S2x16x256x256, .f32⟩
  | 96 => ⟨S2x16x256x256, .f32⟩
  | 97 => ⟨S_, .f32⟩
  | 98 => ⟨S2x16x256, .f32⟩
  | 99 => ⟨S2x16x256x1, .f32⟩
  | 100 => ⟨S2x16x256x256, .f32⟩
  | 101 => ⟨S2x16x256x256, .f32⟩
  | 102 => ⟨S2x16x256x256, .f32⟩
  | 103 => ⟨S_, .i1⟩
  | 104 => ⟨S256, .i1⟩
  | 105 => ⟨S1x1x256x1, .i1⟩
  | 106 => ⟨S_, .f32⟩
  | 107 => ⟨S2x16x256, .f32⟩
  | 108 => ⟨S2x16x256x1, .f32⟩
  | 109 => ⟨S_, .f32⟩
  | 110 => ⟨S_, .f32⟩
  | 111 => ⟨S2x16x256x1, .i1⟩
  | 112 => ⟨S2x16x256x1, .f32⟩
  | 113 => ⟨S2x16x256x1, .f32⟩
  | 114 => ⟨S2x16x256x256, .f32⟩
  | 115 => ⟨S2x16x256x256, .f32⟩
  | 116 => ⟨S1x1x256x1, .i1⟩
  | 117 => ⟨S_, .f32⟩
  | 118 => ⟨S_, .f32⟩
  | 119 => ⟨S2x16x256x256, .i1⟩
  | 120 => ⟨S2x16x256x256, .f32⟩
  | 121 => ⟨S2x16x256x256, .f32⟩
  | 122 => ⟨S2x256x16x64, .f32⟩
  | 123 => ⟨S2x16x64x256, .f32⟩
  | 124 => ⟨S2x256x16x64, .f32⟩
  | 125 => ⟨S2x256x1024, .f32⟩
  | 126 => ⟨S1024x512, .f32⟩
  | 127 => ⟨S2x256x512, .f32⟩
  | _ => ⟨S2x256x512, .bf16⟩

abbrev hbmTy0_1 (i : Nat) : BufTy := match i % 128 with
  | 0 => ⟨S2x256x512, .bf16⟩
  | _ => ⟨S2x256x512, .bf16⟩

abbrev hbmTy (i : Nat) : BufTy := match i / 128 with
  | 0 => hbmTy0_0 i
  | 1 => hbmTy0_1 i
  | _ => ⟨S2x256x512, .bf16⟩

abbrev bufTy : (tb : Table) → Fin (tcTables nBuf tb) → BufTy
  | .hbm, ⟨i, _⟩ => hbmTy i
  | _, _ => ⟨S2x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩

abbrev nD : Nat := 1
abbrev τ : Topo := Topo.v7x

variable {F : FTy → Type} [FloatOps F]
-- ==== Proof.KernelIdeal.Protocol.lean ====
/- The protocol of the four devices: who signals whom, which block lands where, what each
   semaphore pays and what each device owes. -/
module

public import proofs.«01_k».proof.Proof.Gen.KernelIdeal.Regions
public import proofs.«01_k».proof.Proof.Gen.KernelIdeal.Skeleton
public import Idealize.ShloMosaic.Lib.ValueLayout
public import Idealize.ShloMosaic.Lib.Rounds

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 eq_ix2 eq_ix3 reshapeEquiv_ix2_1ab)

variable {F : FTy → Type} [FloatOps F]

/-! ## The resource algebra: the pipeline's copy, and the protocol's with three duties to a cell -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring: slot `s` of a device is written by the device `s + 1` places before it -/

set_option backward.proofsInPublic true in
def nxt (c : Dev nD) (s : Fin 3) : Dev nD := ⟨(c.val + s.val + 1) % 4, Nat.mod_lt _ (by decide)⟩
set_option backward.proofsInPublic true in
def prv (c : Dev nD) (s : Fin 3) : Dev nD := ⟨(c.val + 3 - s.val) % 4, Nat.mod_lt _ (by decide)⟩

theorem prv_nxt (c : Dev nD) (s : Fin 3) : prv (nxt c s) s = c := by revert c s; decide
theorem nxt_prv (c : Dev nD) (s : Fin 3) : nxt (prv c s) s = c := by revert c s; decide
theorem nxt_rev (c : Dev nD) (s : Fin 3) : nxt (nxt c s) s.rev = c := by revert c s; decide
theorem nxt_ne (c : Dev nD) (s : Fin 3) : nxt c s ≠ c := by revert c s; decide

theorem dev1_eq (c : Dev nD) : (⟨k0_dev1 c, k0_dev1_lt c⟩ : Dev nD) = nxt c 0 := by revert c; decide +kernel
theorem dev2_eq (c : Dev nD) : (⟨k0_dev2 c, k0_dev2_lt c⟩ : Dev nD) = nxt c 1 := by revert c; decide +kernel
theorem dev3_eq (c : Dev nD) : (⟨k0_dev3 c, k0_dev3_lt c⟩ : Dev nD) = nxt c 2 := by revert c; decide +kernel
theorem dev4_eq (c : Dev nD) : (⟨k0_dev4 c, k0_dev4_lt c⟩ : Dev nD) = nxt c 0 := by revert c; decide +kernel
theorem dev5_eq (c : Dev nD) : (⟨k0_dev5 c, k0_dev5_lt c⟩ : Dev nD) = nxt c 1 := by revert c; decide +kernel
theorem dev6_eq (c : Dev nD) : (⟨k0_dev6 c, k0_dev6_lt c⟩ : Dev nD) = nxt c 2 := by revert c; decide +kernel
theorem dev7_eq (c : Dev nD) : (⟨k0_dev7 c, k0_dev7_lt c⟩ : Dev nD) = nxt c 0 := by revert c; decide +kernel
theorem dev8_eq (c : Dev nD) : (⟨k0_dev8 c, k0_dev8_lt c⟩ : Dev nD) = nxt c 1 := by revert c; decide +kernel
theorem dev9_eq (c : Dev nD) : (⟨k0_dev9 c, k0_dev9_lt c⟩ : Dev nD) = nxt c 2 := by revert c; decide +kernel

/-! ## The cells -/

abbrev barS : Sem sig := (SemArray.scalar (sig.barrier 0 rfl) : Sems sig S_).sem
abbrev sndD (s : Fin 3) (b : Fin 2) : DmaSem sig := ⟨6 + 2 * s.val + b.val, by show _ < 18; omega⟩
abbrev rcvD (s : Fin 3) (b : Fin 2) : DmaSem sig := ⟨12 + 2 * s.val + b.val, by show _ < 18; omega⟩

abbrev barCell (c : Dev nD) : GSem nD τ sig := ((c : Thread nD τ), .reg barS)
abbrev sndCell (c : Dev nD) (s : Fin 3) (b : Fin 2) : GSem nD τ sig := ((c : Thread nD τ), .dma (sndD s b))
abbrev rcvCell (c : Dev nD) (s : Fin 3) (b : Fin 2) : GSem nD τ sig := ((c : Thread nD τ), .dma (rcvD s b))

/-- The slot and the half a DMA semaphore is about. -/
def slotOf (k : DmaSem sig) : Fin 3 := ⟨(k.val / 2) % 3, Nat.mod_lt _ (by decide)⟩
def halfOf (k : DmaSem sig) : Fin 2 := ⟨k.val % 2, Nat.mod_lt _ (by decide)⟩

theorem slotOf_snd (s : Fin 3) (b : Fin 2) : slotOf (sndD s b) = s := by revert s b; decide
theorem halfOf_snd (s : Fin 3) (b : Fin 2) : halfOf (sndD s b) = b := by revert s b; decide
theorem slotOf_rcv (s : Fin 3) (b : Fin 2) : slotOf (rcvD s b) = s := by revert s b; decide
theorem halfOf_rcv (s : Fin 3) (b : Fin 2) : halfOf (rcvD s b) = b := by revert s b; decide

/-! ## The element sets: half `b` of the source rows; half `b` of the rows of landing slot `s` -/

abbrev SrcC (F : FTy → Type) : Type := (cc0_scratch0 : Ref sig .tc).ty.Contents (Elt F)
abbrev RcvC (F : FTy → Type) : Type := (cc0_scratch1 : Ref sig .tc).ty.Contents (Elt F)

def srcSet (b : Fin 2) : Finset S512x256.Idx := Finset.univ.filter fun i => (i 0).val / 256 = b.val
def rcvSet (s : Fin 3) (b : Fin 2) : Finset S3x512x256.Idx :=
  Finset.univ.filter fun i => (i 0).val = s.val ∧ (i 1).val / 256 = b.val

theorem mem_srcSet {b : Fin 2} {i : S512x256.Idx} : i ∈ srcSet b ↔ (i 0).val / 256 = b.val := by simp [srcSet]
theorem mem_rcvSet {s : Fin 3} {b : Fin 2} {i : S3x512x256.Idx} :
    i ∈ rcvSet s b ↔ (i 0).val = s.val ∧ (i 1).val / 256 = b.val := by simp [rcvSet]

theorem src_disj : Disjoint (srcSet 0) (srcSet 1) := by
  rw [Finset.disjoint_left]; intro i h h'; rw [mem_srcSet] at h h'; rw [h] at h'; exact absurd h' (by decide)
theorem src_union : srcSet 0 ∪ srcSet 1 = Finset.univ := by
  ext i
  simp only [Finset.mem_union, mem_srcSet, Finset.mem_univ, iff_true]
  have : (i 0).val < 512 := (i 0).isLt
  show (i 0).val / 256 = 0 ∨ (i 0).val / 256 = 1
  omega

/-- The printed source view of half `b`, at any spelling of its offsets. -/
abbrev srcM (off : Fin 2 → ℕ) (inb : ∀ a, off a + S256x256.size a ≤ S512x256.size a) : Memref sig .tc .vmem S256x256 .bf16 :=
  (Memref.whole cc0_scratch0 : Memref sig .tc .vmem S512x256 .bf16).slice (Rect.unit (s := S512x256) off S256x256.size inb) (fun _ => rfl)
/-- The printed landing view. -/
abbrev rcvM (off : Fin 3 → ℕ) (inb : ∀ a, off a + S1x256x256.size a ≤ S3x512x256.size a) : Memref sig .tc .vmem S256x256 .bf16 :=
  ((Memref.whole cc0_scratch1 : Memref sig .tc .vmem S3x512x256 .bf16).slice (Rect.unit (s := S3x512x256) off S1x256x256.size inb) (fun _ => rfl)).squeeze
    S256x256 squeezes_S1x256x256_S256x256

section Views

variable {b : Fin 2} {s : Fin 3}

theorem srcM_emb {off : Fin 2 → ℕ} {inb} (h : off = ![256 * b.val, 0]) (x : S256x256.Idx) :
    (srcM off inb).view.emb x = (ix2 (⟨256 * b.val + (x 0).val, by have : (x 0).val < 256 := (x 0).isLt; omega⟩ : Fin 512)
      (⟨(x 1).val, (x 1).isLt⟩ : Fin 256) : S512x256.Idx) := by
  subst h
  funext a
  refine Fin.ext ?_
  match a with
  | 0 => show 256 * b.val + 1 * (x 0).val = 256 * b.val + (x 0).val; omega
  | 1 => show 0 + 1 * (x 1).val = (x 1).val; omega

theorem rcvM_emb {off : Fin 3 → ℕ} {inb} (h : off = ![s.val, 256 * b.val, 0]) (x : S256x256.Idx) :
    (rcvM off inb).view.emb x = (ix3 (⟨s.val, s.isLt⟩ : Fin 3) (⟨256 * b.val + (x 0).val, by have : (x 0).val < 256 := (x 0).isLt; omega⟩ : Fin 512)
      (⟨(x 1).val, (x 1).isLt⟩ : Fin 256) : S3x512x256.Idx) := by
  subst h
  have e : Shape.reshapeEquiv squeezes_S1x256x256_S256x256.numel_eq x = ix3 (⟨0, Nat.one_pos⟩ : Fin 1) (x 0) (x 1) := by
    conv_lhs => rw [eq_ix2 x]
    exact reshapeEquiv_ix2_1ab _ _ _
  show (Rect.unit (s := S3x512x256) _ S1x256x256.size inb).emb (Shape.reshapeEquiv squeezes_S1x256x256_S256x256.numel_eq x) = _
  rw [e]
  funext a
  refine Fin.ext ?_
  match a with
  | 0 => show s.val + 1 * 0 = s.val; omega
  | 1 => show 256 * b.val + 1 * (x 0).val = 256 * b.val + (x 0).val; omega
  | 2 => show 0 + 1 * (x 1).val = (x 1).val; omega

theorem srcM_set {off : Fin 2 → ℕ} {inb} (h : off = ![256 * b.val, 0]) : (srcM off inb).view.set = srcSet b := by
  ext i
  refine Iff.trans ?_ mem_srcSet.symm
  constructor
  · intro hi
    obtain ⟨x, -, rfl⟩ := Finset.mem_map.mp hi
    rw [srcM_emb h x]
    show (256 * b.val + (x 0).val) / 256 = b.val
    have : (x 0).val < 256 := (x 0).isLt
    omega
  · intro hi
    refine Finset.mem_map.mpr ⟨ix2 (⟨(i 0).val % 256, Nat.mod_lt _ (by decide)⟩ : Fin 256) (⟨(i 1).val, (i 1).isLt⟩ : Fin 256), Finset.mem_univ _, ?_⟩
    rw [srcM_emb h]
    refine Eq.trans ?_ (eq_ix2 i).symm
    congr 1
    refine Fin.ext ?_
    show 256 * b.val + (i 0).val % 256 = (i 0).val
    omega

theorem rcvM_set {off : Fin 3 → ℕ} {inb} (h : off = ![s.val, 256 * b.val, 0]) : (rcvM off inb).view.set = rcvSet s b := by
  ext i
  refine Iff.trans ?_ mem_rcvSet.symm
  constructor
  · intro hi
    obtain ⟨x, -, rfl⟩ := Finset.mem_map.mp hi
    rw [rcvM_emb h x]
    refine ⟨rfl, ?_⟩
    show (256 * b.val + (x 0).val) / 256 = b.val
    have : (x 0).val < 256 := (x 0).isLt
    omega
  · intro hi
    refine Finset.mem_map.mpr ⟨ix2 (⟨(i 1).val % 256, Nat.mod_lt _ (by decide)⟩ : Fin 256) (⟨(i 2).val, (i 2).isLt⟩ : Fin 256), Finset.mem_univ _, ?_⟩
    rw [rcvM_emb h]
    refine Eq.trans ?_ (eq_ix3 i).symm
    congr 1
    · exact Fin.ext hi.1.symm
    · refine Fin.ext ?_
      show 256 * b.val + (i 1).val % 256 = (i 1).val
      omega

end Views

/-- What device `e`'s landing slots hold once everything has landed: slot `s` the source block of the device `s + 1` places before. -/
def landed (X : Dev nD → SrcC F) (e : Dev nD) : RcvC F := fun i =>
  X (prv e ⟨(i 0).val, (i 0).isLt⟩) (ix2 (⟨(i 1).val, (i 1).isLt⟩ : Fin 512) (⟨(i 2).val, (i 2).isLt⟩ : Fin 256))

theorem landing {s : Fin 3} {b : Fin 2} (X : Dev nD → SrcC F) (c : Dev nD) {off : Fin 2 → ℕ} {inb} (h : off = ![256 * b.val, 0])
    {off' : Fin 3 → ℕ} {inb'} (h' : off' = ![s.val, 256 * b.val, 0]) (fd : RcvC F) :
    ∀ i ∈ (rcvM off' inb').view.set,
      (rcvM off' inb').view.write (Elt F) fd ((srcM off inb).view.read (Elt F) (X c)) Finset.univ i = landed X (nxt c s) i := by
  intro i hi
  obtain ⟨x, -, rfl⟩ := Finset.mem_map.mp hi
  refine ((rcvM off' inb').view.write_emb_of_mem (Val := Elt F) fd _ (Finset.mem_univ x)).trans ?_
  show X c ((srcM off inb).view.emb x) = landed X (nxt c s) ((rcvM off' inb').view.emb x)
  rw [srcM_emb h, rcvM_emb h']
  show _ = X (prv (nxt c s) s) _
  rw [prv_nxt]
  rfl

/-! ## The points-tos -/

def sPts (c : Dev nD) (b : Fin 2) (q : PosShare TreeShare) (f : SrcC F) : sProp 𝕄 :=
  ((c : Thread nD τ).loc cc0_scratch0) ↦[srcSet b]{q} f
def rPts (c : Dev nD) (s : Fin 3) (b : Fin 2) (f : RcvC F) : sProp 𝕄 :=
  ((c : Thread nD τ).loc cc0_scratch1) ↦[rcvSet s b]{fullShare} f

instance sPts_storable (c : Dev nD) (b : Fin 2) (q) (f) : BI.Storable (upEmb : UEmb _ 𝕄) (sPts (F := F) c b q f) := by unfold sPts; infer_instance
instance rPts_storable (c : Dev nD) (s : Fin 3) (b : Fin 2) (f) : BI.Storable (upEmb : UEmb _ 𝕄) (rPts (F := F) c s b f) := by unfold rPts; infer_instance

/-- The share of the source rows that rides with the copy to slot `s`; the fourth quarter stays for the device's own load. -/
def qs : Fin 3 → PosShare TreeShare
  | 0 => fullShare.left.left
  | 1 => fullShare.left.right
  | 2 => fullShare.right.left
def qL : PosShare TreeShare := fullShare.right.right

theorem sPts_quarters (c : Dev nD) (b : Fin 2) (f : SrcC F) :
    (sPts c b fullShare f : sProp 𝕄) ⊣⊢ iprop((sPts c b (qs 0) f ∗ sPts c b (qs 1) f) ∗ (sPts c b (qs 2) f ∗ sPts c b qL f)) := by
  unfold sPts qL
  have h := pointsTo_share (Ix := Unit) (Name := ℕ) (U := UU) (Lvl := ℕ) (Val := Elt F) (ℓ := (c : Thread nD τ).loc cc0_scratch0) (I := srcSet b) (f := f)
    (PosShare.mem_left_op_right fullShare)
  have hl := pointsTo_share (Ix := Unit) (Name := ℕ) (U := UU) (Lvl := ℕ) (Val := Elt F) (ℓ := (c : Thread nD τ).loc cc0_scratch0) (I := srcSet b) (f := f)
    (PosShare.mem_left_op_right fullShare.left)
  have hr := pointsTo_share (Ix := Unit) (Name := ℕ) (U := UU) (Lvl := ℕ) (Val := Elt F) (ℓ := (c : Thread nD τ).loc cc0_scratch0) (I := srcSet b) (f := f)
    (PosShare.mem_left_op_right fullShare.right)
  exact ⟨h.1.trans (BIClass.sep_mono hl.1 hr.1), (BIClass.sep_mono hl.2 hr.2).trans h.2⟩

/-! ## The schedule: one round everywhere -/

abbrev N : ℕ := (rcvM ![0, 0, 0] inb_S3x512x256_S1x256x256_0_0_0).view.dmaCredit
theorem N_pos : 0 < N := View.dmaCredit_pos _ (by decide)

theorem rcvM_credit (off : Fin 3 → ℕ) (inb) : (rcvM off inb).view.dmaCredit = N := rfl
theorem srcM_credit (off : Fin 2 → ℕ) (inb) : (srcM off inb).view.dmaCredit = N := rfl

variable (X : Dev nD → SrcC F)

/-- What the device `s + 1` places further hands device `c` with its signal: its landing slot `s`, which is the one `c` writes,
    and that the two cells counting what lands there are open. -/
def barPay (c : Dev nD) (s : Fin 3) : sProp 𝕄 :=
  iprop((∃ f, rPts (nxt c s) s 0 f) ∗ (∃ f, rPts (nxt c s) s 1 f)
    ∗ reached ER (rcvCell (nxt c s) s 0) 0 ∗ reached ER (rcvCell (nxt c s) s 1) 0)
def sndPay (c : Dev nD) (s : Fin 3) (b : Fin 2) : sProp 𝕄 := sPts c b (qs s) (X c)
def rcvPay (c : Dev nD) (s : Fin 3) (b : Fin 2) : sProp 𝕄 := rPts c s b (landed X c)

def Rd : Rounds.Schedule (GSem nD τ sig) (Fin 3) 𝕄 where
  duties g r := if r = 0 ∧ g.1.2 = .tc then
      (match g.2 with | .reg _ => Finset.univ | .dma k => if 6 ≤ k.val then {0} else ∅) else ∅
  unitless _ := False
  amount g _ _ := match g.2 with | .reg _ => 1 | .dma _ => N
  payload g _ d := match g.2 with
    | .reg _ => barPay g.1.1 d
    | .dma k => if 12 ≤ k.val then rcvPay X g.1.1 (slotOf k) (halfOf k) else sndPay X g.1.1 (slotOf k) (halfOf k)
  amount_pos g _ _ _ := by
    obtain ⟨t, sm⟩ := g
    cases sm with
    | reg _ => exact Nat.one_pos
    | dma _ => exact N_pos

instance Rd_payload_storable (g : GSem nD τ sig) (r : ℕ) (d : Fin 3) :
    BI.Storable (upEmb : UEmb _ 𝕄) ((Rd X).payload g r d) := by
  obtain ⟨t, sm⟩ := g
  cases sm with
  | reg _ => show BI.Storable upEmb (barPay (F := F) t.1 d); unfold barPay; infer_instance
  | dma k =>
    show BI.Storable upEmb (if 12 ≤ k.val then rcvPay X t.1 (slotOf k) (halfOf k) else sndPay X t.1 (slotOf k) (halfOf k))
    unfold rcvPay sndPay
    split <;> infer_instance

section Sched

variable (c : Dev nD) (s : Fin 3) (b : Fin 2)

theorem snd_lo : 6 ≤ (sndD s b).val := by show 6 ≤ 6 + 2 * s.val + b.val; omega
theorem snd_hi : ¬ 12 ≤ (sndD s b).val := by show ¬ 12 ≤ 6 + 2 * s.val + b.val; omega
theorem rcv_lo : 6 ≤ (rcvD s b).val := by show 6 ≤ 12 + 2 * s.val + b.val; omega
theorem rcv_hi : 12 ≤ (rcvD s b).val := by show 12 ≤ 12 + 2 * s.val + b.val; omega

theorem duties_bar : (Rd X).duties (barCell c) 0 = Finset.univ := by dsimp only [Rd]; exact if_pos ⟨rfl, rfl⟩
theorem duties_snd : (Rd X).duties (sndCell c s b) 0 = {0} := by
  dsimp only [Rd]; rw [if_pos ⟨rfl, rfl⟩]; exact if_pos (snd_lo s b)
theorem duties_rcv : (Rd X).duties (rcvCell c s b) 0 = {0} := by
  dsimp only [Rd]; rw [if_pos ⟨rfl, rfl⟩]; exact if_pos (rcv_lo s b)
theorem duties_later (g : GSem nD τ sig) : ∀ r, 1 ≤ r → (Rd X).duties g r = ∅ :=
  fun r hr => by dsimp only [Rd]; exact if_neg (fun h => by omega)

theorem amount_bar (d : Fin 3) : (Rd X).amount (barCell c) 0 d = 1 := rfl
theorem amount_snd (d : Fin 3) : (Rd X).amount (sndCell c s b) 0 d = N := rfl
theorem amount_rcv (d : Fin 3) : (Rd X).amount (rcvCell c s b) 0 d = N := rfl

theorem expect_bar : (Rd X).expect (barCell c) 0 = 3 := by
  unfold Schedule.expect Schedule.amountOf; rw [duties_bar]
  simp only [amount_bar, Finset.sum_const, Finset.card_univ, Fintype.card_fin, smul_eq_mul]
theorem expect_snd : (Rd X).expect (sndCell c s b) 0 = N := by
  unfold Schedule.expect Schedule.amountOf; rw [duties_snd, Finset.sum_singleton, amount_snd]
theorem expect_rcv : (Rd X).expect (rcvCell c s b) 0 = N := by
  unfold Schedule.expect Schedule.amountOf; rw [duties_rcv, Finset.sum_singleton, amount_rcv]

theorem payload_bar (d : Fin 3) : (Rd X).payload (barCell c) 0 d = barPay c d := rfl
theorem payload_snd (d : Fin 3) : (Rd X).payload (sndCell c s b) 0 d = sndPay X c s b := by
  dsimp only [Rd]; rw [if_neg (snd_hi s b), slotOf_snd, halfOf_snd]
theorem payload_rcv (d : Fin 3) : (Rd X).payload (rcvCell c s b) 0 d = rcvPay X c s b := by
  dsimp only [Rd]; rw [if_pos (rcv_hi s b), slotOf_rcv, halfOf_rcv]

theorem rest_bar : bigSep ((Rd X).duties (barCell c) 0 \ ∅) (fun d => (Rd X).payload (barCell c) 0 d)
    = iprop(barPay c 0 ∗ barPay c 1 ∗ barPay c 2) := by
  rw [Finset.sdiff_empty, duties_bar, bigSep_eq_bigSepL_of_eq [(0 : Fin 3), 1, 2] (by decide) (by decide)]
  rfl
theorem rest_snd : bigSep ((Rd X).duties (sndCell c s b) 0 \ ∅) (fun d => (Rd X).payload (sndCell c s b) 0 d) = sndPay X c s b := by
  rw [Finset.sdiff_empty, duties_snd, bigSep_singleton, payload_snd]
theorem rest_rcv : bigSep ((Rd X).duties (rcvCell c s b) 0 \ ∅) (fun d => (Rd X).payload (rcvCell c s b) 0 d) = rcvPay X c s b := by
  rw [Finset.sdiff_empty, duties_rcv, bigSep_singleton, payload_rcv]

end Sched

/-! ## What each device owes at launch; the levels -/

/-- A list of payments, the first to be made first. -/
def owe : List (GSem nD τ sig × ℕ) → CellTallies nD τ sig Unit
  | [] => 0
  | (g, n) :: l => owe l + tallyAt g () n

theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    by_cases hp : p.1 = g
    · exact ⟨p, List.mem_cons_self, hp⟩
    · have e : owe (p :: l) g u = owe l g u := by
        show (owe l + tallyAt p.1 () p.2) g u = _
        rw [Pi.add_apply, Finsupp.add_apply, tallyAt_apply, if_neg (fun h => hp h.1.symm), Nat.add_zero]
      rw [e] at h
      obtain ⟨q, hq, hqe⟩ := ih h
      exact ⟨q, List.mem_cons_of_mem _ hq, hqe⟩

def rcvDue (c : Dev nD) : List (GSem nD τ sig × ℕ) :=
  [(rcvCell (nxt c 0) 0 0, N), (rcvCell (nxt c 1) 1 0, N), (rcvCell (nxt c 2) 2 0, N),
   (rcvCell (nxt c 0) 0 1, N), (rcvCell (nxt c 1) 1 1, N), (rcvCell (nxt c 2) 2 1, N)]
def barDue (c : Dev nD) : List (GSem nD τ sig × ℕ) :=
  [(barCell (nxt c 0), 1), (barCell (nxt c 1), 1), (barCell (nxt c 2), 1)]

def O₀ (c : Dev nD) : CellTallies nD τ sig Unit := owe (barDue c ++ rcvDue c)

def L (g : GSem nD τ sig) : Finset Unit := if g.1.2 = .tc then {()} else ∅
/-- Barrier cells at 1, cells counting landings at 2, the rest at 0. -/
def lv (g : GSem nD τ sig) (_ : Unit) : ℕ := match g.2 with | .reg _ => 1 | .dma k => if 12 ≤ k.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem mem_rcvDue {c : Dev nD} {p : GSem nD τ sig × ℕ} (h : p ∈ rcvDue c) : ∃ e s b, p = (rcvCell e s b, N) := by
  simp only [rcvDue, List.mem_cons, List.not_mem_nil, or_false] at h
  rcases h with rfl | rfl | rfl | rfl | rfl | rfl <;> exact ⟨_, _, _, rfl⟩

theorem mayWait_bar (c : Dev nD) :
    (levAts L lv : sProp 𝕄) ⊢ MayWait (c : Thread nD τ) (.reg barS) () (owe (rcvDue c)) :=
  MayOwe.of_cut (L := L) (lev := lv) 1 (fun p hp => by rw [Finset.mem_singleton.mp hp, L_tc]; exact Finset.mem_singleton_self _)
    (fun g u hg => by
      obtain ⟨p, hp, rfl⟩ := owe_pos hg
      obtain ⟨e, s, b, rfl⟩ := mem_rcvDue hp
      rw [L_tc]; exact Finset.mem_singleton_self _)
    (fun p hp => by rw [Finset.mem_singleton.mp hp]; exact le_refl _)
    (fun g u hg => by
      obtain ⟨p, hp, rfl⟩ := owe_pos hg
      obtain ⟨e, s, b, rfl⟩ := mem_rcvDue hp
      dsimp only [lv]; rw [if_pos (rcv_hi s b)]; decide)

/-! ## The protocol's ghost state -/

/-- The thirteen cells of a device: its barrier, six send cells, six receive cells. -/
def cells : List (SemLoc sig) :=
  [.reg barS, .dma (sndD 0 0), .dma (sndD 0 1), .dma (sndD 1 0), .dma (sndD 1 1), .dma (sndD 2 0), .dma (sndD 2 1),
   .dma (rcvD 0 0), .dma (rcvD 0 1), .dma (rcvD 1 0), .dma (rcvD 1 1), .dma (rcvD 2 0), .dma (rcvD 2 1)]
def csem (k : Fin 13) : SemLoc sig := cells.get (k.cast rfl)
abbrev kcell (ck : Dev nD × Fin 13) : GSem nD τ sig := ((ck.1 : Thread nD τ), csem ck.2)

/-- Every cell's invariant, at the names `K`. -/
def invs (K : GSem nD τ sig → ℕ) : sProp 𝕄 :=
  bigSep (Finset.univ : Finset (Dev nD × Fin 13)) fun ck => cellInv ER (Rd X) (K (kcell ck)) (kcell ck)
instance invs_persistent (K : GSem nD τ sig → ℕ) : BI.Persistent (invs X K) := by unfold invs; infer_instance

theorem invs_at (K : GSem nD τ sig → ℕ) (e : Dev nD) (k : Fin 13) :
    invs X K ⊢ cellInv ER (Rd X) (K (kcell (e, k))) (kcell (e, k)) := by
  unfold invs
  exact bigSep_elim (Finset.mem_univ (e, k))

theorem inv_bar (K : GSem nD τ sig → ℕ) (e : Dev nD) : invs X K ⊢ cellInv ER (Rd X) (K (barCell e)) (barCell e) := invs_at X K e 0

theorem inv_snd (K : GSem nD τ sig → ℕ) (e : Dev nD) (s : Fin 3) (b : Fin 2) :
    invs X K ⊢ cellInv ER (Rd X) (K (sndCell e s b)) (sndCell e s b) := by
  have h := invs_at X K e ⟨1 + 2 * s.val + b.val, by omega⟩
  have e : csem ⟨1 + 2 * s.val + b.val, by omega⟩ = .dma (sndD s b) := by clear h; revert s b; decide
  rw [show kcell (_, (⟨1 + 2 * s.val + b.val, by omega⟩ : Fin 13)) = sndCell _ s b from Prod.ext rfl e] at h
  exact h
theorem inv_rcv (K : GSem nD τ sig → ℕ) (e : Dev nD) (s : Fin 3) (b : Fin 2) :
    invs X K ⊢ cellInv ER (Rd X) (K (rcvCell e s b)) (rcvCell e s b) := by
  have h := invs_at X K e ⟨7 + 2 * s.val + b.val, by omega⟩
  have e : csem ⟨7 + 2 * s.val + b.val, by omega⟩ = .dma (rcvD s b) := by clear h; revert s b; decide
  rw [show kcell (_, (⟨7 + 2 * s.val + b.val, by omega⟩ : Fin 13)) = rcvCell _ s b from Prod.ext rfl e] at h
  exact h

/-- The same thing for each copy, in the order the copies are issued. -/
def all6 (Φ : Fin 3 → Fin 2 → sProp 𝕄) : sProp 𝕄 := iprop(Φ 0 0 ∗ Φ 1 0 ∗ Φ 2 0 ∗ Φ 0 1 ∗ Φ 1 1 ∗ Φ 2 1)
def all3 (Φ : Fin 3 → sProp 𝕄) : sProp 𝕄 := iprop(Φ 0 ∗ Φ 1 ∗ Φ 2)

/-- The tokens device `c` pays its duties with. -/
def toks (c : Dev nD) : sProp 𝕄 :=
  iprop(all3 (fun s => dutyTok ER (barCell (nxt c s)) 0 s.rev)
    ∗ all6 (fun s b => dutyTok ER (rcvCell (nxt c s) s b) 0 0) ∗ all6 (fun s b => dutyTok ER (sndCell c s b) 0 0))

/-- What device `c` carries from launch to the kernel: its barrier cell's position and the right to open its own twelve cells;
    that its peers' barrier cells are at round 0; its tokens. -/
def ghost (K : GSem nD τ sig → ℕ) (c : Dev nD) : sProp 𝕄 :=
  iprop(invs X K ∗ atPos ER (barCell c) 0 ∅ 0 ∗ all6 (fun s b => openTok ER (sndCell c s b)) ∗ all6 (fun s b => openTok ER (rcvCell c s b))
    ∗ all3 (fun s => reached ER (barCell (nxt c s)) 0) ∗ toks c)

/-- The credit it waits with. -/
def creds (c : Dev nD) : sProp 𝕄 :=
  iprop(cred (tallyAt (barCell c) () 3) ∗ all6 (fun s b => cred (tallyAt (rcvCell c s b) () N)))

def start (c : Dev nD) : sProp 𝕄 := iprop((∃ K, ghost X K c) ∗ creds c)

/-- The same once its cells are open. -/
def opened (K : GSem nD τ sig → ℕ) (c : Dev nD) : sProp 𝕄 :=
  iprop(invs X K ∗ atPos ER (barCell c) 0 ∅ 0 ∗ all6 (fun s b => atPos ER (sndCell c s b) 0 ∅ 0) ∗ all6 (fun s b => atPos ER (rcvCell c s b) 0 ∅ 0)
    ∗ all6 (fun s b => reached ER (sndCell c s b) 0) ∗ all6 (fun s b => reached ER (rcvCell c s b) 0)
    ∗ all3 (fun s => reached ER (barCell (nxt c s)) 0) ∗ toks c)

theorem close (κ : ℕ) (g : GSem nD τ sig) :
    iprop(cellInv ER (Rd X) κ g ∗ atPos ER g (0 + 1) ∅ 0) ⊢ (|={Set.univ}=> semVal g 0 : sProp 𝕄) :=
  Rounds.cell_close ER (Rd X) (Set.mem_univ κ) id (duties_later X g)

abbrev 𝒱₀ : Variants := Variants.none

end Cert.KernelIdeal.Run

end
-- ==== Proof.KernelIdeal.Steps.lean ====
/- One step of the kernel for each kind of operation it makes on a semaphore. -/
module

public import proofs.«01_k».proof.Proof.KernelIdeal.Protocol

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → SrcC F) (K : GSem nD τ sig → ℕ) (c : Dev nD)

/-- What device `c` still owes. -/
def ow (c : Dev nD) (O : CellTallies nD τ sig Unit) : sProp 𝕄 := iprop(∃ W, owes (c : Thread nD τ) O W)

/-- Running a piece of the kernel on device `c`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

theorem signal_step (s : Fin 3) {dst : Dev nD} (hdst : dst = nxt c s) (rest : List (GSem nD τ sig × ℕ))
    {α : Type} {Q : α → sProp 𝕄} {k : PUnit → Prog (TpuEff nD τ sig (Elt F) Λ₀ .tc) α} :
    iprop(invs X K ∗ ow c (owe ((barCell (nxt c s), 1) :: rest)) ∗ dutyTok ER (barCell (nxt c s)) 0 s.rev ∗ reached ER (barCell (nxt c s)) 0
        ∗ (∃ f, rPts c s.rev 0 f) ∗ (∃ f, rPts c s.rev 1 f) ∗ reached ER (rcvCell c s.rev 0) 0 ∗ reached ER (rcvCell c s.rev 1) 0)
      ⊢ iprop((ow c (owe rest) -∗ run c (k ⟨⟩) Q) -∗ run c (.op (.semSignal (dst : Thread nD τ) barS (1#32).toNat) k) Q) := by
  subst hdst
  unfold ow
  iintro ⟨#HI, ⟨%W, HO⟩, Ht, #Hr, H0, H1, #R0, #R1⟩ Hk
  ihave #HIb := (inv_bar X K (nxt c s)) $$ HI
  iapply (Rounds.wp_signal 𝒱₀ ER (Rd X) (c : Thread nD τ) none (dst := (nxt c s : Thread nD τ)) (sem := barS) (r := 0) (d := s.rev) (κ := K (barCell (nxt c s)))
      (by rw [duties_bar]; exact Finset.mem_univ _) (amount_bar X (nxt c s) s.rev) () (owe rest) rfl) $$ [HO Ht H0 H1]
  · isplitr; · iexact HIb
    isplitl [HO]; · iexact HO
    isplitl [Ht]; · iexact Ht
    isplitl [H0 H1]
    · rw [payload_bar]; unfold barPay; rw [nxt_rev]
      isplitl [H0]; · iexact H0
      isplitl [H1]; · iexact H1
      isplitr; · iexact R0
      iexact R1
    · iexact Hr
  iintro HO
  iapply Hk
  iexists W; iexact HO

theorem barrier_step {α : Type} {Q : α → sProp 𝕄} {k : PUnit → Prog (TpuEff nD τ sig (Elt F) Λ₀ .tc) α} :
    iprop(invs X K ∗ cred (tallyAt (barCell c) () 3) ∗ ow c (owe (rcvDue c)) ∗ levAts L lv ∗ atPos ER (barCell c) 0 ∅ 0)
      ⊢ iprop(((ow c (owe (rcvDue c)) ∗ atPos ER (barCell c) (0 + 1) ∅ 0 ∗ barPay c 0 ∗ barPay c 1 ∗ barPay c 2) -∗ run c (k ⟨⟩) Q)
          -∗ run c (.op (.semWait barS (3#32).toNat) k) Q) := by
  unfold ow
  iintro ⟨#HI, Hc, ⟨%W, HO⟩, #Hlev, Hat⟩ Hk
  ihave #HIb := (inv_bar X K c) $$ HI
  iapply (Rounds.wp_wait_rest_token 𝒱₀ ER (Rd X) (c : Thread nD τ) none (κ := K (barCell c))
      (wpE_semWait_eq 𝒱₀ (c : Thread nD τ) none Set.univ) (Set.mem_univ _) () (O := owe (rcvDue c)) (W := W) (R := 0) (m := 0) (T := ∅)
      ((Nat.zero_add _).trans (expect_bar X c).symm)) $$ [Hc HO Hat]
  · isplitr; · iexact HIb
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  iapply Hk
  isplitl [HO]; · iexists _; iexact HO
  isplitl [Hat]; · iexact Hat
  iexact Hp

theorem send_step (s : Fin 3) (b : Fin 2) {dst : Dev nD} (hdst : dst = nxt c s) (rest : List (GSem nD τ sig × ℕ))
    {off : Fin 2 → ℕ} {inb} (h : off = ![256 * b.val, 0]) {off' : Fin 3 → ℕ} {inb'} (h' : off' = ![s.val, 256 * b.val, 0])
    {sS sR : DmaSem sig} (hS : sS = sndD s b) (hR : sR = rcvD s b) {hsc} {h1} {h2} {h3}
    {α : Type} {Q : α → sProp 𝕄} {k : PUnit → Prog (TpuEff nD τ sig (Elt F) Λ₀ .tc) α} :
    iprop(invs X K ∗ sPts c b (qs s) (X c) ∗ (∃ f, rPts (nxt c s) s b f) ∗ ow c (owe ((rcvCell (nxt c s) s b, N) :: rest))
        ∗ dutyTok ER (sndCell c s b) 0 0 ∗ reached ER (sndCell c s b) 0
        ∗ dutyTok ER (rcvCell (nxt c s) s b) 0 0 ∗ reached ER (rcvCell (nxt c s) s b) 0)
      ⊢ iprop(((cred (tallyAt (sndCell c s b) () N) ∗ ow c (owe rest)) -∗ run c (k ⟨⟩) Q)
          -∗ run c (.op (.enqueueDma (srcM off inb) (.remote (dst : Thread nD τ) (rcvM off' inb') (.dma sS) hsc) (.dma sR) h1 h2 h3) k) Q) := by
  subst hdst hS hR
  unfold ow
  iintro ⟨#HI, Hs, ⟨%fd, Hr⟩, ⟨%W, HO⟩, HtS, #RS, HtR, #RR⟩ Hk
  ihave #HIs := (inv_snd X K c s b) $$ HI
  ihave #HIr := (inv_rcv X K (nxt c s) s b) $$ HI
  iapply (Rounds.wp_send_pointsTo 𝒱₀ ER (Rd X) (c : Thread nD τ) none (c' := (nxt c s : Thread nD τ)) (src := srcM off inb) (dst := rcvM off' inb')
      (sS := .dma (sndD s b)) (sem := .dma (rcvD s b)) (q := qs s) (fs := X c) (κ₁ := K (sndCell c s b)) (κ₂ := K (rcvCell (nxt c s) s b))
      (r₁ := 0) (r₂ := 0) (d₁ := 0) (d₂ := 0) (fd := fd)
      (by rw [duties_snd]; exact Finset.mem_singleton_self _) (by rw [duties_rcv]; exact Finset.mem_singleton_self _)
      () () N rfl (amount_snd X c s b 0) (amount_rcv X (nxt c s) s b 0) (owe rest) rfl (W := W)
      (by rw [payload_snd, srcM_set h]; exact BI.Entails.refl _)
      (by rw [payload_rcv, pointsTo_congr (landing X c h h' fd), rcvM_set h']; exact BI.Entails.refl _)) $$ [Hs Hr HO HtS HtR]
  · isplitr; · iexact HIs
    isplitr; · iexact HIr
    isplitl [Hs]; · rw [srcM_set h]; unfold sPts; iexact Hs
    isplitl [Hr]; · rw [rcvM_set h']; unfold rPts; iexact Hr
    isplitl [HO]; · iexact HO
    isplitl [HtS]; · iexact HtS
    isplitr; · iexact RS
    isplitl [HtR]; · iexact HtR
    iexact RR
  iintro ⟨Hc, HO⟩
  iapply Hk
  isplitl [Hc]; · iexact Hc
  iexists W; iexact HO

theorem recv_step (s : Fin 3) (b : Fin 2) {off : Fin 2 → ℕ} {inb} {off' : Fin 3 → ℕ} {inb'}
    {sR : DmaSem sig} (hR : sR = rcvD s b) {h1} {h2}
    {α : Type} {Q : α → sProp 𝕄} {k : PUnit → Prog (TpuEff nD τ sig (Elt F) Λ₀ .tc) α} :
    iprop(invs X K ∗ cred (tallyAt (rcvCell c s b) () N) ∗ ow c 0 ∗ atPos ER (rcvCell c s b) 0 ∅ 0)
      ⊢ iprop(((ow c 0 ∗ atPos ER (rcvCell c s b) (0 + 1) ∅ 0 ∗ rPts c s b (landed X c)) -∗ run c (k ⟨⟩) Q)
          -∗ run c (.op (.waitDma2 sR (srcM off inb) (rcvM off' inb') h1 h2) k) Q) := by
  subst hR
  unfold ow
  iintro ⟨#HI, Hc, ⟨%W, HO⟩, Hat⟩ Hk
  ihave #HIs := (inv_rcv X K c s b) $$ HI
  iapply (Rounds.wp_wait_rest_token 𝒱₀ ER (Rd X) (c : Thread nD τ) none (κ := K (rcvCell c s b))
      (wpE_waitDma2_eq (src := srcM off inb) (dst := rcvM off' inb') 𝒱₀ (c : Thread nD τ) none Set.univ) (Set.mem_univ _) () (O := 0) (W := W) (R := 0) (m := 0) (T := ∅)
      ((Nat.zero_add _).trans (expect_rcv X c s b).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hp := (Entails.of_eq ((rest_rcv X c s b).trans rfl : _ = rPts c s b (landed X c))) $$ Hpay
  iapply Hk
  isplitl [HO]; · iexists _; iexact HO
  isplitl [Hat]; · iexact Hat
  iexact Hp

theorem sent_step (s : Fin 3) (b : Fin 2) {off : Fin 2 → ℕ} {inb} {off' : Fin 3 → ℕ} {inb'}
    {sS : DmaSem sig} (hS : sS = sndD s b) {h1} {h2}
    {α : Type} {Q : α → sProp 𝕄} {k : PUnit → Prog (TpuEff nD τ sig (Elt F) Λ₀ .tc) α} :
    iprop(invs X K ∗ cred (tallyAt (sndCell c s b) () N) ∗ ow c 0 ∗ atPos ER (sndCell c s b) 0 ∅ 0)
      ⊢ iprop(((ow c 0 ∗ atPos ER (sndCell c s b) (0 + 1) ∅ 0 ∗ sPts c b (qs s) (X c)) -∗ run c (k ⟨⟩) Q)
          -∗ run c (.op (.waitDma2 sS (rcvM off' inb') (srcM off inb) h1 h2) k) Q) := by
  subst hS
  unfold ow
  iintro ⟨#HI, Hc, ⟨%W, HO⟩, Hat⟩ Hk
  ihave #HIs := (inv_snd X K c s b) $$ HI
  iapply (Rounds.wp_wait_rest_token 𝒱₀ ER (Rd X) (c : Thread nD τ) none (κ := K (sndCell c s b))
      (wpE_waitDma2_eq (src := rcvM off' inb') (dst := srcM off inb) 𝒱₀ (c : Thread nD τ) none Set.univ) (Set.mem_univ _) () (O := 0) (W := W) (R := 0) (m := 0) (T := ∅)
      ((Nat.zero_add _).trans (expect_snd X c s b).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hp := (Entails.of_eq ((rest_snd X c s b).trans rfl : _ = sPts c b (qs s) (X c))) $$ Hpay
  iapply Hk
  isplitl [HO]; · iexists _; iexact HO
  isplitl [Hat]; · iexact Hat
  iexact Hp

end Cert.KernelIdeal.Run

end
-- ==== Proof.KernelIdeal.Contents.lean ====
/- What the kernel computes on a device, as plain functions of what its input windows hold. -/
module

public import proofs.«01_k».proof.Proof.KernelIdeal.Protocol

@[expose] public section

noncomputable section

namespace Cert.KernelIdeal.Run

open Cert.KernelIdeal Cert.KernelIdeal.Gen
open Idealize.ShloMosaic Idealize.ShloMosaic.TcCoe
open Idealize.ShloMosaic.ValueIdx (ix2 ix3 eq_ix2 eq_ix3 reshapeEquiv_ix2_1ab)

variable {F : FTy → Type} [FloatOps F]

/-- The five input windows: tokens, this device's columns of the query weights, its keys and values, the output weights. -/
structure Ins (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

abbrev OutC (F : FTy → Type) : Type := (cc0_stg5_0 : Ref sig .tc).ty.Contents (Elt F)

abbrev hM : Memref sig .tc .vmem S512x256 .bf16 := Memref.whole cc0_scratch0
abbrev gM : Memref sig .tc .vmem S3x512x256 .bf16 := Memref.whole cc0_scratch1
abbrev xM : Memref sig .tc .vmem S2x256x512 .bf16 := Memref.whole cc0_stg0_0
abbrev qM : Memref sig .tc .vmem S512x256 .bf16 := Memref.whole cc0_stg1_0
abbrev kM : Memref sig .tc .vmem S2x256x256 .bf16 := Memref.whole cc0_stg2_0
abbrev vM : Memref sig .tc .vmem S2x256x256 .bf16 := Memref.whole cc0_stg3_0
abbrev oM : Memref sig .tc .vmem S1024x512 .bf16 := Memref.whole cc0_stg4_0
abbrev yM : Memref sig .tc .vmem S2x256x512 .bf16 := Memref.whole cc0_stg5_0

/-! ## The loads -/

variable (I : Ins F)

def lx : Vec F S2x256x512 .bf16 :=
  xM.view.readAt (Elt F) (Rect.unit (s := S2x256x512) ![0, 0, 0] S2x256x512.size inb_S2x256x512_S2x256x512_0_0_0).toLoadRect I.x
def lw : Vec F S512x256 .bf16 :=
  qM.view.readAt (Elt F) (Rect.unit (s := S512x256) ![0, 0] S512x256.size inb_S512x256_S512x256_0_0).toLoadRect I.wq
def lk0 : Vec F S1x256x256 .bf16 :=
  kM.view.readAt (Elt F) (Rect.unit (s := S2x256x256) ![0, 0, 0] S1x256x256.size inb_S2x256x256_S1x256x256_0_0_0).toLoadRect I.k
def lv0 : Vec F S1x256x256 .bf16 :=
  vM.view.readAt (Elt F) (Rect.unit (s := S2x256x256) ![0, 0, 0] S1x256x256.size inb_S2x256x256_S1x256x256_0_0_0).toLoadRect I.v
def lk1 : Vec F S1x256x256 .bf16 :=
  kM.view.readAt (Elt F) (Rect.unit (s := S2x256x256) ![1, 0, 0] S1x256x256.size inb_S2x256x256_S1x256x256_1_0_0).toLoadRect I.k
def lv1 : Vec F S1x256x256 .bf16 :=
  vM.view.readAt (Elt F) (Rect.unit (s := S2x256x256) ![1, 0, 0] S1x256x256.size inb_S2x256x256_S1x256x256_1_0_0).toLoadRect I.v
def lo (off : Fin 2 → ℕ) (inb : ∀ a, off a + S256x512.size a ≤ S1024x512.size a) : Vec F S256x512 .bf16 :=
  oM.view.readAt (Elt F) (Rect.unit (s := S1024x512) off S256x512.size inb).toLoadRect I.wo

/-! ## The attention of one device's heads -/

def cq : FVec F S512x256 .bf16 := k0_pay1 (lx I) (lw I)
def cmask : FVec F S4x1x256 .bf16 := k0_pay5 (F := F) k0_pay2 k0_pay3 k0_pay4 0#32

def c118 : FVec F S128x256 .f32 := k0_pay12 (cq I) k0_pay2 k0_pay3 k0_pay4 0#32 (lk0 I) (lv0 I)
def top0 : FVec F S64x256 .bf16 := k0_pay14 cmask (k0_pay9 (cq I)) (k0_pay10 (lk0 I)) (k0_pay11 (lv0 I))
def mid0 : FVec F S128x256 .bf16 := k0_pay15 (c118 I)
def bot0 : FVec F S64x256 .bf16 := k0_pay16 cmask (k0_pay9 (cq I)) (k0_pay10 (lk0 I)) (k0_pay11 (lv0 I))

def c249 : FVec F S128x256 .f32 := k0_pay21 cmask (k0_pay18 (lk1 I)) (k0_pay19 (lv1 I)) (k0_pay20 (cq I))
def c268 : FVec F S4x128x256 .f32 := k0_pay22 cmask (k0_pay17 (cq I)) (k0_pay18 (lk1 I)) (k0_pay19 (lv1 I))
def top1 : FVec F S64x256 .bf16 := k0_pay24 (c268 I)
def mid1 : FVec F S128x256 .bf16 := k0_pay25 (c249 I)
def bot1 : FVec F S64x256 .bf16 := k0_pay26 (c268 I)

/-- Row `n` of a block of `h` rows, at column `i 1`. -/
abbrev at64 (w : FVec F S64x256 .bf16) (a : ℕ) (i : S512x256.Idx) (h : (i 0).val - a < 64) : Elt F .bf16 :=
  w (ix2 (⟨(i 0).val - a, h⟩ : Fin 64) (⟨(i 1).val, (i 1).isLt⟩ : Fin 256))
abbrev at128 (w : FVec F S128x256 .bf16) (a : ℕ) (i : S512x256.Idx) (h : (i 0).val - a < 128) : Elt F .bf16 :=
  w (ix2 (⟨(i 0).val - a, h⟩ : Fin 128) (⟨(i 1).val, (i 1).isLt⟩ : Fin 256))

/-- The context rows a device computes: 256 rows of each batch, its 256 columns. -/
def ctx : SrcC F := fun i =>
  if h0 : (i 0).val < 64 then at64 (top0 I) 0 i (by omega)
  else if h1 : (i 0).val < 192 then at128 (mid0 I) 64 i (by omega)
  else if h2 : (i 0).val < 256 then at64 (bot0 I) 192 i (by omega)
  else if h3 : (i 0).val < 320 then at64 (top1 I) 256 i (by omega)
  else if h4 : (i 0).val < 448 then at128 (mid1 I) 320 i (by omega)
  else at64 (bot1 I) 448 i (by have : (i 0).val < 512 := (i 0).isLt; omega)

theorem write64 (f : SrcC F) (w : FVec F S64x256 .bf16) {off : Fin 2 → ℕ} {inb} {a : ℕ} (h : off = ![a, 0]) (i : S512x256.Idx) :
    (hM.access (Rect.unit (s := S512x256) off S64x256.size inb)).write (Elt F) f w Finset.univ i
      = if hh : a ≤ (i 0).val ∧ (i 0).val - a < 64 then at64 w a i hh.2 else f i := by
  subst h
  by_cases hh : a ≤ (i 0).val ∧ (i 0).val - a < 64
  · rw [dif_pos hh]
    have e : (hM.access (Rect.unit (s := S512x256) ![a, 0] S64x256.size inb)).emb
        (ix2 (⟨(i 0).val - a, hh.2⟩ : Fin 64) (⟨(i 1).val, (i 1).isLt⟩ : Fin 256)) = i := by
      funext d
      refine Fin.ext ?_
      match d with
      | 0 => show a + 1 * ((i 0).val - a) = (i 0).val; omega
      | 1 => show 0 + 1 * (i 1).val = (i 1).val; omega
    have k := (hM.access (Rect.unit (s := S512x256) ![a, 0] S64x256.size inb)).write_emb_of_mem (Val := Elt F) f w
      (Finset.mem_univ (ix2 (⟨(i 0).val - a, hh.2⟩ : Fin 64) (⟨(i 1).val, (i 1).isLt⟩ : Fin 256)))
    rw [e] at k
    exact k
  · rw [dif_neg hh]
    refine (hM.access (Rect.unit (s := S512x256) ![a, 0] S64x256.size inb)).write_of_not_mem (Val := Elt F) f w _ fun hi => hh ?_
    obtain ⟨x, -, rfl⟩ := Finset.mem_map.mp hi
    have hx : (x 0).val < 64 := (x 0).isLt
    have h0 : ((hM.access (Rect.unit (s := S512x256) ![a, 0] S64x256.size inb)).emb x 0).val = a + 1 * (x 0).val := rfl
    rw [h0]; omega

theorem write128 (f : SrcC F) (w : FVec F S128x256 .bf16) {off : Fin 2 → ℕ} {inb} {a : ℕ} (h : off = ![a, 0]) (i : S512x256.Idx) :
    (hM.access (Rect.unit (s := S512x256) off S128x256.size inb)).write (Elt F) f w Finset.univ i
      = if hh : a ≤ (i 0).val ∧ (i 0).val - a < 128 then at128 w a i hh.2 else f i := by
  subst h
  by_cases hh : a ≤ (i 0).val ∧ (i 0).val - a < 128
  · rw [dif_pos hh]
    have e : (hM.access (Rect.unit (s := S512x256) ![a, 0] S128x256.size inb)).emb
        (ix2 (⟨(i 0).val - a, hh.2⟩ : Fin 128) (⟨(i 1).val, (i 1).isLt⟩ : Fin 256)) = i := by
      funext d
      refine Fin.ext ?_
      match d with
      | 0 => show a + 1 * ((i 0).val - a) = (i 0).val; omega
      | 1 => show 0 + 1 * (i 1).val = (i 1).val; omega
    have k := (hM.access (Rect.unit (s := S512x256) ![a, 0] S128x256.size inb)).write_emb_of_mem (Val := Elt F) f w
      (Finset.mem_univ (ix2 (⟨(i 0).val - a, hh.2⟩ : Fin 128) (⟨(i 1).val, (i 1).isLt⟩ : Fin 256)))
    rw [e] at k
    exact k
  · rw [dif_neg hh]
    refine (hM.access (Rect.unit (s := S512x256) ![a, 0] S128x256.size inb)).write_of_not_mem (Val := Elt F) f w _ fun hi => hh ?_
    obtain ⟨x, -, rfl⟩ := Finset.mem_map.mp hi
    have hx : (x 0).val < 128 := (x 0).isLt
    have h0 : ((hM.access (Rect.unit (s := S512x256) ![a, 0] S128x256.size inb)).emb x 0).val = a + 1 * (x 0).val := rfl
    rw [h0]; omega

theorem rows64 {off : Fin 2 → ℕ} {inb} {a : ℕ} (b : Fin 2) (h : off = ![a, 0]) (h0 : 256 * b.val ≤ a) (h1 : a + 64 ≤ 256 * b.val + 256) :
    (hM.access (Rect.unit (s := S512x256) off S64x256.size inb)).set ⊆ srcSet b := by
  subst h
  intro i hi
  obtain ⟨x, -, rfl⟩ := Finset.mem_map.mp hi
  refine mem_srcSet.mpr ?_
  have hx : (x 0).val < 64 := (x 0).isLt
  show (a + 1 * (x 0).val) / 256 = b.val
  omega

theorem rows128 {off : Fin 2 → ℕ} {inb} {a : ℕ} (b : Fin 2) (h : off = ![a, 0]) (h0 : 256 * b.val ≤ a) (h1 : a + 128 ≤ 256 * b.val + 256) :
    (hM.access (Rect.unit (s := S512x256) off S128x256.size inb)).set ⊆ srcSet b := by
  subst h
  intro i hi
  obtain ⟨x, -, rfl⟩ := Finset.mem_map.mp hi
  refine mem_srcSet.mpr ?_
  have hx : (x 0).val < 128 := (x 0).isLt
  show (a + 1 * (x 0).val) / 256 = b.val
  omega

theorem rows64L {off : Fin 2 → ℕ} {inb} {a : ℕ} (b : Fin 2) (h : off = ![a, 0]) (h0 : 256 * b.val ≤ a) (h1 : a + 64 ≤ 256 * b.val + 256) :
    hM.view.setOn (Rect.unit (s := S512x256) off S64x256.size inb).toLoadRect.set ⊆ srcSet b := by
  have k := rows64 (inb := inb) b h h0 h1
  rwa [View.set_slice] at k

theorem rows128L {off : Fin 2 → ℕ} {inb} {a : ℕ} (b : Fin 2) (h : off = ![a, 0]) (h0 : 256 * b.val ≤ a) (h1 : a + 128 ≤ 256 * b.val + 256) :
    hM.view.setOn (Rect.unit (s := S512x256) off S128x256.size inb).toLoadRect.set ⊆ srcSet b := by
  have k := rows128 (inb := inb) b h h0 h1
  rwa [View.set_slice] at k

theorem rcv_disj (s : Fin 3) : Disjoint (rcvSet s 0) (rcvSet s 1) := by
  rw [Finset.disjoint_left]
  intro i h h'
  rw [mem_rcvSet] at h h'
  rw [h.2] at h'
  exact absurd h'.2 (by decide)

theorem rcv_span (s : Fin 3) {inb} :
    (gM.access (Rect.unit (s := S3x512x256) ![s.val, 0, 0] S1x512x256.size inb)).set ⊆ rcvSet s 0 ∪ rcvSet s 1 := by
  intro i hi
  obtain ⟨x, -, rfl⟩ := Finset.mem_map.mp hi
  have h0 : (x 0).val < 1 := (x 0).isLt
  have h1 : (x 1).val < 512 := (x 1).isLt
  have e0 : ((gM.access (Rect.unit (s := S3x512x256) ![s.val, 0, 0] S1x512x256.size inb)).emb x 0).val = s.val + 1 * (x 0).val := rfl
  have e1 : ((gM.access (Rect.unit (s := S3x512x256) ![s.val, 0, 0] S1x512x256.size inb)).emb x 1).val = 0 + 1 * (x 1).val := rfl
  rw [Finset.mem_union, mem_rcvSet, mem_rcvSet, e0, e1]
  by_cases h : (x 1).val < 256
  · left; refine ⟨by omega, ?_⟩; show _ = 0; omega
  · right; refine ⟨by omega, ?_⟩; show _ = 1; omega

theorem rcv_spanL (s : Fin 3) {inb} :
    gM.view.setOn (Rect.unit (s := S3x512x256) ![s.val, 0, 0] S1x512x256.size inb).toLoadRect.set ⊆ rcvSet s 0 ∪ rcvSet s 1 := by
  have k := rcv_span s (inb := inb)
  rwa [View.set_slice] at k

/-- The three stores of batch 0 leave the context rows in the first half. -/
theorem stored0 (f : SrcC F) {inb inb' inb''} : ∀ i ∈ srcSet 0,
    (hM.access (Rect.unit (s := S512x256) ![192, 0] S64x256.size inb'')).write (Elt F)
      ((hM.access (Rect.unit (s := S512x256) ![64, 0] S128x256.size inb')).write (Elt F)
        ((hM.access (Rect.unit (s := S512x256) ![0, 0] S64x256.size inb)).write (Elt F) f (top0 I) Finset.univ)
        (mid0 I) Finset.univ) (bot0 I) Finset.univ i = ctx I i := by
  intro i hi
  have hi : (i 0).val / 256 = 0 := mem_srcSet.mp hi
  rw [write64 _ _ rfl, write128 _ _ rfl, write64 _ _ rfl]
  unfold ctx
  by_cases h0 : (i 0).val < 64
  · rw [dif_neg (by omega), dif_neg (by omega), dif_pos (by omega), dif_pos h0]
  by_cases h1 : (i 0).val < 192
  · rw [dif_neg (by omega), dif_pos (by omega), dif_neg h0, dif_pos h1]
  · rw [dif_pos (by omega), dif_neg h0, dif_neg h1, dif_pos (by omega)]

/-- The three stores of batch 1 leave them in the second half. -/
theorem stored1 (f : SrcC F) {inb inb' inb''} : ∀ i ∈ srcSet 1,
    (hM.access (Rect.unit (s := S512x256) ![448, 0] S64x256.size inb'')).write (Elt F)
      ((hM.access (Rect.unit (s := S512x256) ![320, 0] S128x256.size inb')).write (Elt F)
        ((hM.access (Rect.unit (s := S512x256) ![256, 0] S64x256.size inb)).write (Elt F) f (top1 I) Finset.univ)
        (mid1 I) Finset.univ) (bot1 I) Finset.univ i = ctx I i := by
  intro i hi
  have hi : (i 0).val / 256 = 1 := mem_srcSet.mp hi
  rw [write64 _ _ rfl, write128 _ _ rfl, write64 _ _ rfl]
  unfold ctx
  by_cases h3 : (i 0).val < 320
  · rw [dif_neg (by omega), dif_neg (by omega), dif_pos (by omega), dif_neg (by omega), dif_neg (by omega), dif_neg (by omega), dif_pos h3]
  by_cases h4 : (i 0).val < 448
  · rw [dif_neg (by omega), dif_pos (by omega), dif_neg (by omega), dif_neg (by omega), dif_neg (by omega), dif_neg h3, dif_pos h4]
  · rw [dif_pos (by omega), dif_neg (by omega), dif_neg (by omega), dif_neg (by omega), dif_neg h3, dif_neg h4]

/-- The store of the output fills its window. -/
theorem stored_out (f w : OutC F) {inb} :
    (yM.access (Rect.unit (s := S2x256x512) ![0, 0, 0] S2x256x512.size inb)).write (Elt F) f w Finset.univ = w :=
  Memref.write_access_unit_zero_univ (Elt F) cc0_stg5_0 (by decide) inb f w

/-! ## The output -/

section Out

variable (In : Dev nD → Ins F) (c : Dev nD)

/-- Every device's context. -/
def allCtx : Dev nD → SrcC F := fun d => ctx (In d)

def ls : Vec F S512x256 .bf16 :=
  hM.view.readAt (Elt F) (Rect.unit (s := S512x256) ![0, 0] S512x256.size inb_S512x256_S512x256_0_0).toLoadRect (allCtx In c)
def lr0 : Vec F S1x512x256 .bf16 :=
  gM.view.readAt (Elt F) (Rect.unit (s := S3x512x256) ![0, 0, 0] S1x512x256.size inb_S3x512x256_S1x512x256_0_0_0).toLoadRect (landed (allCtx In) c)
def lr1 : Vec F S1x512x256 .bf16 :=
  gM.view.readAt (Elt F) (Rect.unit (s := S3x512x256) ![1, 0, 0] S1x512x256.size inb_S3x512x256_S1x512x256_1_0_0).toLoadRect (landed (allCtx In) c)
def lr2 : Vec F S1x512x256 .bf16 :=
  gM.view.readAt (Elt F) (Rect.unit (s := S3x512x256) ![2, 0, 0] S1x512x256.size inb_S3x512x256_S1x512x256_2_0_0).toLoadRect (landed (allCtx In) c)

def o27 : FVec F S512x512 .f32 := k0_pay27 (lo (In c) (k0_off1 c) (k0_off1_inb c)) (ls In c)
def o28 : FVec F S512x512 .f32 := k0_pay28 (o27 In c) (lo (In c) (k0_off2 c 1#32) (k0_off2_inb c 0)) (lr0 In c)
def o29 : FVec F S512x512 .f32 := k0_pay29 (o28 In c) (lo (In c) (k0_off2 c 3#32) (k0_off2_inb c 2)) (lr2 In c)
def out : OutC F :=
  k0_pay32 (o29 In c) (k0_pay30 (lo (In c) (k0_off2 c 2#32) (k0_off2_inb c 1))) (k0_pay31 (lr1 In c)) (constant S512x512 .f32 0x00000000#32)

end Out

end Cert.KernelIdeal.Run

end
-- ==== Proof.KernelIdeal.Parts.lean ====
/- The kernel's body run on one device, part by part: from its windows, its two scratch buffers and its place in the protocol
   to the output window at `out`, every semaphore spent. -/
module

public import proofs.«01_k».proof.Proof.KernelIdeal.Steps
public import proofs.«01_k».proof.Proof.KernelIdeal.Contents

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A window's staging buffer, whole, at `f`. -/
def stg (c : Dev nD) (b : Ref sig .tc) (f : b.ty.Contents (Elt F)) : sProp 𝕄 := ((c : Thread nD τ).loc b) ↦{fullShare} f

/-- What a device hands over with its signal to the device `s + 1` places on. -/
def barUp (c : Dev nD) (s : Fin 3) : sProp 𝕄 :=
  iprop(dutyTok ER (barCell (nxt c s)) 0 s.rev ∗ reached ER (barCell (nxt c s)) 0
    ∗ (∃ f, rPts c s.rev 0 f) ∗ (∃ f, rPts c s.rev 1 f) ∗ reached ER (rcvCell c s.rev 0) 0 ∗ reached ER (rcvCell c s.rev 1) 0)

/-- What a device needs besides the two buffers to send half `b` to the device `s + 1` places on. -/
def sendUp (c : Dev nD) (s : Fin 3) (b : Fin 2) : sProp 𝕄 :=
  iprop(dutyTok ER (sndCell c s b) 0 0 ∗ reached ER (sndCell c s b) 0
    ∗ dutyTok ER (rcvCell (nxt c s) s b) 0 0 ∗ reached ER (rcvCell (nxt c s) s b) 0)

/-- What it waits with for a landing, and what it then has. -/
def rcvUp (c : Dev nD) (s : Fin 3) (b : Fin 2) : sProp 𝕄 :=
  iprop(cred (tallyAt (rcvCell c s b) () N) ∗ atPos ER (rcvCell c s b) 0 ∅ 0)
def rcvGot (X : Dev nD → SrcC F) (c : Dev nD) (s : Fin 3) (b : Fin 2) : sProp 𝕄 :=
  iprop(atPos ER (rcvCell c s b) (0 + 1) ∅ 0 ∗ rPts c s b (landed X c))
/-- The same for a copy's having left. -/
def sndUp (c : Dev nD) (s : Fin 3) (b : Fin 2) : sProp 𝕄 :=
  iprop(cred (tallyAt (sndCell c s b) () N) ∗ atPos ER (sndCell c s b) 0 ∅ 0)
def sndGot (X : Dev nD → SrcC F) (c : Dev nD) (s : Fin 3) (b : Fin 2) : sProp 𝕄 :=
  iprop(atPos ER (sndCell c s b) (0 + 1) ∅ 0 ∗ sPts c b (qs s) (X c))

/-- The landings still owed after `n` sends. -/
abbrev due (c : Dev nD) (n : ℕ) : CellTallies nD τ sig Unit := owe ((rcvDue c).drop n)

theorem stg_eq (c : Dev nD) (b : Ref sig .tc) (f : b.ty.Contents (Elt F)) : (stg c b f : sProp 𝕄) = iprop(((c : Thread nD τ).loc b) ↦{fullShare} f) := rfl

theorem stg_stored (c : Dev nD) (f w : OutC F) {inb} :
    (((yM.access (Rect.unit (s := S2x256x512) ![0, 0, 0] S2x256x512.size inb)).loc (c : Thread nD τ))
      ↦{fullShare} (yM.access (Rect.unit (s := S2x256x512) ![0, 0, 0] S2x256x512.size inb)).write (Elt F) f w Finset.univ : sProp 𝕄)
      = stg c cc0_stg5_0 w := by
  rw [stored_out]; rfl

section Parts

variable (X : Dev nD → SrcC F) (K : GSem nD τ sig → ℕ) (c : Dev nD)

theorem ret_step {α : Type} {Q : α → sProp 𝕄} (a : α) : Q a ⊢ run c (.ret a) Q := by
  unfold run
  rw [wp_ret]
  iintro H
  imodintro
  iexact H

theorem signal {α : Type} {Q : α → sProp 𝕄} (s : Fin 3) {dst : Dev nD} (hdst : dst = nxt c s) (rest : List (GSem nD τ sig × ℕ))
    {k : PUnit → Prog (TpuEff nD τ sig (Elt F) Λ₀ .tc) α} :
    iprop(invs X K ∗ ow c (owe ((barCell (nxt c s), 1) :: rest)) ∗ barUp c s)
      ⊢ iprop((ow c (owe rest) -∗ run c (k ⟨⟩) Q) -∗ run c (.op (.semSignal (dst : Thread nD τ) barS (1#32).toNat) k) Q) :=
  signal_step X K c s hdst rest

theorem send {α : Type} {Q : α → sProp 𝕄} (s : Fin 3) (b : Fin 2) {dst : Dev nD} (hdst : dst = nxt c s) (rest : List (GSem nD τ sig × ℕ))
    {off : Fin 2 → ℕ} {inb} (h : off = ![256 * b.val, 0]) {off' : Fin 3 → ℕ} {inb'} (h' : off' = ![s.val, 256 * b.val, 0])
    {sS sR : DmaSem sig} (hS : sS = sndD s b) (hR : sR = rcvD s b) {hsc} {h1} {h2} {h3}
    {k : PUnit → Prog (TpuEff nD τ sig (Elt F) Λ₀ .tc) α} :
    iprop(invs X K ∗ sPts c b (qs s) (X c) ∗ (∃ f, rPts (nxt c s) s b f) ∗ ow c (owe ((rcvCell (nxt c s) s b, N) :: rest)) ∗ sendUp c s b)
      ⊢ iprop(((cred (tallyAt (sndCell c s b) () N) ∗ ow c (owe rest)) -∗ run c (k ⟨⟩) Q)
          -∗ run c (.op (.enqueueDma (srcM off inb) (.remote (dst : Thread nD τ) (rcvM off' inb') (.dma sS) hsc) (.dma sR) h1 h2 h3) k) Q) :=
  send_step X K c s b hdst rest h h' hS hR

theorem sent {α : Type} {Q : α → sProp 𝕄} (s : Fin 3) (b : Fin 2) {off : Fin 2 → ℕ} {inb} {off' : Fin 3 → ℕ} {inb'}
    {sS : DmaSem sig} (hS : sS = sndD s b) {h1} {h2}
    {k : PUnit → Prog (TpuEff nD τ sig (Elt F) Λ₀ .tc) α} :
    iprop(invs X K ∗ sndUp c s b ∗ ow c 0)
      ⊢ iprop(((ow c 0 ∗ sndGot X c s b) -∗ run c (k ⟨⟩) Q)
          -∗ run c (.op (.waitDma2 sS (rcvM off' inb') (srcM off inb) h1 h2) k) Q) := by
  unfold sndUp sndGot
  iintro ⟨HI, ⟨Hc, Ha⟩, HO⟩
  iapply (sent_step X K c s b hS)
  isplitl [HI]; · iexact HI
  isplitl [Hc]; · iexact Hc
  isplitl [HO]; · iexact HO
  iexact Ha

theorem recv {α : Type} {Q : α → sProp 𝕄} (s : Fin 3) (b : Fin 2) {off : Fin 2 → ℕ} {inb} {off' : Fin 3 → ℕ} {inb'}
    {sR : DmaSem sig} (hR : sR = rcvD s b) {h1} {h2}
    {k : PUnit → Prog (TpuEff nD τ sig (Elt F) Λ₀ .tc) α} :
    iprop(invs X K ∗ rcvUp c s b ∗ ow c 0)
      ⊢ iprop(((ow c 0 ∗ rcvGot X c s b) -∗ run c (k ⟨⟩) Q)
          -∗ run c (.op (.waitDma2 sR (srcM off inb) (rcvM off' inb') h1 h2) k) Q) := by
  unfold rcvUp rcvGot
  iintro ⟨HI, ⟨Hc, Ha⟩, HO⟩
  iapply (recv_step X K c s b hR)
  isplitl [HI]; · iexact HI
  isplitl [Hc]; · iexact Hc
  isplitl [HO]; · iexact HO
  iexact Ha

/-- Both halves of a landed slot, read as one block. -/
theorem load_slot {α : Type} {Q : α → sProp 𝕄} (s : Fin 3) {off : Fin 3 → ℕ} (h : off = ![s.val, 0, 0]) {inb}
    {hl : gM.view.LoadsAt (Rect.unit (s := S3x512x256) off S1x512x256.size inb).toLoadRect}
    {k : Vec F S1x512x256 .bf16 → Prog (TpuEff nD τ sig (Elt F) Λ₀ .tc) α} :
    iprop(rcvGot X c s 0 ∗ rcvGot X c s 1)
      ⊢ iprop(((rcvGot X c s 0 ∗ rcvGot X c s 1)
            -∗ run c (k (gM.view.readAt (Elt F) (Rect.unit (s := S3x512x256) off S1x512x256.size inb).toLoadRect (landed X c))) Q)
          -∗ run c (.op (.load gM (Rect.unit (s := S3x512x256) off S1x512x256.size inb).toLoadRect hl) k) Q) := by
  subst h
  unfold rcvGot rPts
  have hu := pointsTo_union (Ix := Unit) (Name := ℕ) (U := UU) (Lvl := ℕ) (Val := Elt F) (ℓ := (c : Thread nD τ).loc cc0_scratch1)
    (q := fullShare) (f := landed X c) (rcv_disj s)
  iintro ⟨⟨Ha, H0⟩, ⟨Hb, H1⟩⟩ Hk
  ihave H := hu.2 $$ [H0 H1]
  · isplitl [H0] <;> iassumption
  iapply (wp_load 𝒱₀ (c : Thread nD τ) none Set.univ (m := gM) (rcv_spanL s)) $$ H
  iintro H
  ihave H' := hu.1 $$ H
  icases H' with ⟨H0, H1⟩
  iapply Hk
  isplitl [Ha H0]; · isplitl [Ha] <;> iassumption
  isplitl [Hb] <;> iassumption

section
variable (I : Ins F)

theorem part1_run {Q : _ → sProp 𝕄} :
    iprop(invs X K ∗ ow c (O₀ c) ∗ barUp c 0 ∗ barUp c 1)
      ⊢ iprop((∀ v2 v30 c4 v31, ow c (owe ((barCell (nxt c 2), 1) :: rcvDue c)) -∗ Q ⟨c, v2, SemArray.scalar (sig.barrier 0 rfl), v30, c4, v31⟩)
          -∗ run c (k0_part1 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 ) Q) := by
  simp only [k0_part1_eq_skeleton]; unfold k0_part1_skel
  simp only [semSignalWord, semWaitWord, Prog.lift, Prog.bind_op, Prog.bind_ret, Prog.pure_eq_ret, Prog.bind_assoc, wp_deviceId]
  iintro ⟨#HI, HO, HB0, HB1⟩ Hk
  iapply (signal X K c 0 (dev1_eq c) ((barCell (nxt c 1), 1) :: (barCell (nxt c 2), 1) :: rcvDue c)) $$ [HO HB0]
  · isplitr; · iexact HI
    isplitl [HO]; · iexact HO
    iexact HB0
  iintro HO
  iapply (signal X K c 1 (dev2_eq c) ((barCell (nxt c 2), 1) :: rcvDue c)) $$ [HO HB1]
  · isplitr; · iexact HI
    isplitl [HO]; · iexact HO
    iexact HB1
  iintro HO
  iapply (ret_step c)
  iapply Hk
  iexact HO

theorem part2_run {Q : _ → sProp 𝕄} {v30 c4 : BitVec 32} {v31 : BitVec 1} :
    iprop(invs X K ∗ ow c (owe ((barCell (nxt c 2), 1) :: rcvDue c)) ∗ barUp c 2 ∗ stg c cc0_stg0_0 I.x ∗ stg c cc0_stg1_0 I.wq)
      ⊢ iprop(((ow c (owe (rcvDue c)) ∗ stg c cc0_stg0_0 I.x ∗ stg c cc0_stg1_0 I.wq) -∗ Q ⟨cq I, k0_pay2, k0_pay3, k0_pay4, 0#32⟩)
          -∗ run c (k0_part2 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c (SemArray.scalar (sig.barrier 0 rfl)) v30 c4 v31) Q) := by
  simp only [k0_part2_eq_skeleton]; unfold k0_part2_skel
  simp only [semSignalWord, semWaitWord, Prog.lift, Prog.bind_op, Prog.bind_ret, Prog.pure_eq_ret, Prog.bind_assoc, wp_deviceId]
  unfold cq lx lw
  iintro ⟨#HI, HO, HB, Hx, Hq⟩ Hk
  iapply (signal X K c 2 (dev3_eq c) (rcvDue c)) $$ [HO HB]
  · isplitr; · iexact HI
    isplitl [HO]; · iexact HO
    iexact HB
  iintro HO
  unfold stg
  iapply (wp_load 𝒱₀ (c : Thread nD τ) none Set.univ (m := xM) (Finset.subset_univ _)) $$ Hx; iintro Hx
  iapply (wp_load 𝒱₀ (c : Thread nD τ) none Set.univ (m := qM) (Finset.subset_univ _)) $$ Hq; iintro Hq
  iapply (ret_step c)
  iapply Hk
  isplitl [HO]; · iexact HO
  isplitl [Hx]; · iexact Hx
  iexact Hq

theorem part3_run {Q : _ → sProp 𝕄} :
    iprop(stg c cc0_stg2_0 I.k ∗ stg c cc0_stg3_0 I.v)
      ⊢ iprop(((stg c cc0_stg2_0 I.k ∗ stg c cc0_stg3_0 I.v) -∗ Q ⟨cmask, k0_pay9 (cq I), k0_pay10 (lk0 I), k0_pay11 (lv0 I), c118 I⟩)
          -∗ run c (k0_part3 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 (cq I) k0_pay2 k0_pay3 k0_pay4 0#32) Q) := by
  simp only [k0_part3_eq_skeleton]; unfold k0_part3_skel
  simp only [semSignalWord, semWaitWord, Prog.lift, Prog.bind_op, Prog.bind_ret, Prog.pure_eq_ret, Prog.bind_assoc, wp_deviceId]
  unfold cmask c118 lk0 lv0
  iintro ⟨Hk0, Hv⟩ Hk
  unfold stg
  iapply (wp_load 𝒱₀ (c : Thread nD τ) none Set.univ (m := kM) (Finset.subset_univ _)) $$ Hk0; iintro Hk0
  iapply (wp_load 𝒱₀ (c : Thread nD τ) none Set.univ (m := vM) (Finset.subset_univ _)) $$ Hv; iintro Hv
  iapply (ret_step c)
  iapply Hk
  isplitl [Hk0]; · iexact Hk0
  iexact Hv

theorem part4_run {Q : _ → sProp 𝕄} {v2 : BitVec 32} (f : SrcC F) :
    iprop(invs X K ∗ sPts c 0 fullShare f ∗ ow c (owe (rcvDue c)) ∗ levAts L lv ∗ cred (tallyAt (barCell c) () 3) ∗ atPos ER (barCell c) 0 ∅ 0)
      ⊢ iprop((∀ v155 v156, (sPts c 0 fullShare (ctx I) ∗ ow c (owe (rcvDue c)) ∗ atPos ER (barCell c) (0 + 1) ∅ 0 ∗ barPay c 0 ∗ barPay c 1 ∗ barPay c 2) -∗ Q ⟨v155, v156, 0#32⟩)
          -∗ run c (k0_part4 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 v2 (SemArray.scalar (sig.barrier 0 rfl)) cmask (k0_pay9 (cq I)) (k0_pay10 (lk0 I)) (k0_pay11 (lv0 I)) (c118 I)) Q) := by
  simp only [k0_part4_eq_skeleton]; unfold k0_part4_skel
  simp only [semSignalWord, semWaitWord, Prog.lift, Prog.bind_op, Prog.bind_ret, Prog.pure_eq_ret, Prog.bind_assoc, wp_deviceId]
  iintro ⟨#HI, Hs, HO, #Hlev, Hc, Hat⟩ Hk
  unfold sPts
  iapply (wp_load 𝒱₀ (c : Thread nD τ) none Set.univ (m := hM) (S := srcSet 0) (rows64L (a := 0) 0 rfl (by decide) (by decide))) $$ Hs; iintro Hs
  iapply (wp_store 𝒱₀ (c : Thread nD τ) none Set.univ (m := hM) (r := Rect.unit (s := S512x256) ![0, 0] S64x256.size inb_S512x256_S64x256_0_0) (Mk := Finset.univ) (S := srcSet 0) (rows64 (a := 0) 0 rfl (by decide) (by decide))) $$ Hs; iintro Hs
  iapply (wp_load 𝒱₀ (c : Thread nD τ) none Set.univ (m := hM) (S := srcSet 0) (rows128L (a := 64) 0 rfl (by decide) (by decide))) $$ Hs; iintro Hs
  iapply (wp_store 𝒱₀ (c : Thread nD τ) none Set.univ (m := hM) (r := Rect.unit (s := S512x256) ![64, 0] S128x256.size inb_S512x256_S128x256_64_0) (Mk := Finset.univ) (S := srcSet 0) (rows128 (a := 64) 0 rfl (by decide) (by decide))) $$ Hs; iintro Hs
  iapply (wp_load 𝒱₀ (c : Thread nD τ) none Set.univ (m := hM) (S := srcSet 0) (rows64L (a := 192) 0 rfl (by decide) (by decide))) $$ Hs; iintro Hs
  iapply (wp_store 𝒱₀ (c : Thread nD τ) none Set.univ (m := hM) (r := Rect.unit (s := S512x256) ![192, 0] S64x256.size inb_S512x256_S64x256_192_0) (Mk := Finset.univ) (S := srcSet 0) (rows64 (a := 192) 0 rfl (by decide) (by decide))) $$ Hs; iintro Hs
  iapply (barrier_step X K c) $$ [Hc HO Hat]
  · isplitr; · iexact HI
    isplitl [Hc]; · iexact Hc
    isplitl [HO]; · iexact HO
    isplitr; · iexact Hlev
    iexact Hat
  iintro ⟨HO, Hat, HP⟩
  ihave Hs' := (Entails.of_eq (pointsTo_congr (stored0 I f))) $$ Hs
  iapply (ret_step c)
  iapply Hk
  isplitl [Hs']; · iexact Hs'
  isplitl [HO]; · iexact HO
  isplitl [Hat]; · iexact Hat
  iexact HP

theorem part5_run {Q : _ → sProp 𝕄} {v2 v155 v156 c0 : BitVec 32} :
    iprop(invs X K ∗ ow c (due c 0) ∗ sPts c 0 (qs 0) (X c) ∗ (∃ f, rPts (nxt c 0) 0 0 f) ∗ sendUp c 0 0)
      ⊢ iprop((∀ v163 v183, (cred (tallyAt (sndCell c 0 0) () N) ∗ ow c (due c 1)) -∗ Q ⟨v163, v183⟩)
          -∗ run c (k0_part5 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2 v155 v156 c0) Q) := by
  simp only [k0_part5_eq_skeleton]; unfold k0_part5_skel
  simp only [semSignalWord, semWaitWord, Prog.lift, Prog.bind_op, Prog.bind_ret, Prog.pure_eq_ret, Prog.bind_assoc, wp_deviceId]
  iintro ⟨#HI, HO, Hs00, Hr00, Hu00⟩ Hk
  iapply (send X K c 0 0 (dev4_eq c) ((rcvDue c).drop 1) (by rfl) (by rfl) (by rfl) (by rfl)) $$ [Hs00 Hr00 HO Hu00]
  · isplitr; · iexact HI
    isplitl [Hs00]; · iexact Hs00
    isplitl [Hr00]; · iexact Hr00
    isplitl [HO]; · iexact HO
    iexact Hu00
  iintro ⟨Hc00, HO⟩
  iapply (ret_step c)
  iapply Hk
  isplitl [Hc00]; · iexact Hc00
  iexact HO

theorem part6_run {Q : _ → sProp 𝕄} {v2 : BitVec 32} :
    iprop(invs X K ∗ ow c (due c 1) ∗ sPts c 0 (qs 1) (X c) ∗ (∃ f, rPts (nxt c 1) 1 0 f) ∗ sendUp c 1 0 ∗ sPts c 0 (qs 2) (X c) ∗ (∃ f, rPts (nxt c 2) 2 0 f) ∗ sendUp c 2 0 ∗ stg c cc0_stg2_0 I.k ∗ stg c cc0_stg3_0 I.v)
      ⊢ iprop((∀ v203, (cred (tallyAt (sndCell c 1 0) () N) ∗ cred (tallyAt (sndCell c 2 0) () N) ∗ ow c (due c 3) ∗ stg c cc0_stg2_0 I.k ∗ stg c cc0_stg3_0 I.v) -∗ Q ⟨v203, k0_pay17 (cq I), k0_pay18 (lk1 I), k0_pay19 (lv1 I), k0_pay20 (cq I)⟩)
          -∗ run c (k0_part6 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2 (cq I)) Q) := by
  simp only [k0_part6_eq_skeleton]; unfold k0_part6_skel
  simp only [semSignalWord, semWaitWord, Prog.lift, Prog.bind_op, Prog.bind_ret, Prog.pure_eq_ret, Prog.bind_assoc, wp_deviceId]
  unfold lk1 lv1
  iintro ⟨#HI, HO, Hs10, Hr10, Hu10, Hs20, Hr20, Hu20, Hk0, Hv⟩ Hk
  iapply (send X K c 1 0 (dev5_eq c) ((rcvDue c).drop 2) (by rfl) (by rfl) (by rfl) (by rfl)) $$ [Hs10 Hr10 HO Hu10]
  · isplitr; · iexact HI
    isplitl [Hs10]; · iexact Hs10
    isplitl [Hr10]; · iexact Hr10
    isplitl [HO]; · iexact HO
    iexact Hu10
  iintro ⟨Hc10, HO⟩
  iapply (send X K c 2 0 (dev6_eq c) ((rcvDue c).drop 3) (by rfl) (by rfl) (by rfl) (by rfl)) $$ [Hs20 Hr20 HO Hu20]
  · isplitr; · iexact HI
    isplitl [Hs20]; · iexact Hs20
    isplitl [Hr20]; · iexact Hr20
    isplitl [HO]; · iexact HO
    iexact Hu20
  iintro ⟨Hc20, HO⟩
  unfold stg
  iapply (wp_load 𝒱₀ (c : Thread nD τ) none Set.univ (m := kM) (Finset.subset_univ _)) $$ Hk0; iintro Hk0
  iapply (wp_load 𝒱₀ (c : Thread nD τ) none Set.univ (m := vM) (Finset.subset_univ _)) $$ Hv; iintro Hv
  iapply (ret_step c)
  iapply Hk
  isplitl [Hc10]; · iexact Hc10
  isplitl [Hc20]; · iexact Hc20
  isplitl [HO]; · iexact HO
  isplitl [Hk0]; · iexact Hk0
  iexact Hv

theorem part7_run {Q : _ → sProp 𝕄} :
    Q ⟨c249 I, c268 I⟩ ⊢ run c (k0_part7 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 cmask (k0_pay17 (cq I)) (k0_pay18 (lk1 I)) (k0_pay19 (lv1 I)) (k0_pay20 (cq I))) Q := by
  simp only [k0_part7_eq_skeleton]; unfold k0_part7_skel c249 c268
  simp only [semSignalWord, semWaitWord, Prog.lift, Prog.bind_op, Prog.bind_ret, Prog.pure_eq_ret, Prog.bind_assoc, wp_deviceId]
  iintro Hk
  iapply (ret_step c)
  iexact Hk

theorem part8_run {Q : _ → sProp 𝕄} {v2 : BitVec 32} (f : SrcC F) :
    iprop(sPts c 1 fullShare f)
      ⊢ iprop((∀ v294, sPts c 1 fullShare (ctx I) -∗ Q v294)
          -∗ run c (k0_part8 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 v2 (c249 I) (c268 I)) Q) := by
  simp only [k0_part8_eq_skeleton]; unfold k0_part8_skel
  simp only [semSignalWord, semWaitWord, Prog.lift, Prog.bind_op, Prog.bind_ret, Prog.pure_eq_ret, Prog.bind_assoc, wp_deviceId]
  iintro Hs Hk
  unfold sPts
  iapply (wp_load 𝒱₀ (c : Thread nD τ) none Set.univ (m := hM) (S := srcSet 1) (rows64L (a := 256) 1 rfl (by decide) (by decide))) $$ Hs; iintro Hs
  iapply (wp_store 𝒱₀ (c : Thread nD τ) none Set.univ (m := hM) (r := Rect.unit (s := S512x256) ![256, 0] S64x256.size inb_S512x256_S64x256_256_0) (Mk := Finset.univ) (S := srcSet 1) (rows64 (a := 256) 1 rfl (by decide) (by decide))) $$ Hs; iintro Hs
  iapply (wp_load 𝒱₀ (c : Thread nD τ) none Set.univ (m := hM) (S := srcSet 1) (rows128L (a := 320) 1 rfl (by decide) (by decide))) $$ Hs; iintro Hs
  iapply (wp_store 𝒱₀ (c : Thread nD τ) none Set.univ (m := hM) (r := Rect.unit (s := S512x256) ![320, 0] S128x256.size inb_S512x256_S128x256_320_0) (Mk := Finset.univ) (S := srcSet 1) (rows128 (a := 320) 1 rfl (by decide) (by decide))) $$ Hs; iintro Hs
  iapply (wp_load 𝒱₀ (c : Thread nD τ) none Set.univ (m := hM) (S := srcSet 1) (rows64L (a := 448) 1 rfl (by decide) (by decide))) $$ Hs; iintro Hs
  iapply (wp_store 𝒱₀ (c : Thread nD τ) none Set.univ (m := hM) (r := Rect.unit (s := S512x256) ![448, 0] S64x256.size inb_S512x256_S64x256_448_0) (Mk := Finset.univ) (S := srcSet 1) (rows64 (a := 448) 1 rfl (by decide) (by decide))) $$ Hs; iintro Hs
  ihave Hs' := (Entails.of_eq (pointsTo_congr (stored1 I f))) $$ Hs
  iapply (ret_step c)
  iapply Hk
  iexact Hs'

theorem part9_run {Q : _ → sProp 𝕄} {v2 : BitVec 32} :
    iprop(invs X K ∗ ow c (due c 3) ∗ sPts c 1 (qs 0) (X c) ∗ (∃ f, rPts (nxt c 0) 0 1 f) ∗ sendUp c 0 1 ∗ sPts c 1 (qs 1) (X c) ∗ (∃ f, rPts (nxt c 1) 1 1 f) ∗ sendUp c 1 1)
      ⊢ iprop((∀ v314 v334, (cred (tallyAt (sndCell c 0 1) () N) ∗ cred (tallyAt (sndCell c 1 1) () N) ∗ ow c (due c 5)) -∗ Q ⟨v314, v334⟩)
          -∗ run c (k0_part9 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2) Q) := by
  simp only [k0_part9_eq_skeleton]; unfold k0_part9_skel
  simp only [semSignalWord, semWaitWord, Prog.lift, Prog.bind_op, Prog.bind_ret, Prog.pure_eq_ret, Prog.bind_assoc, wp_deviceId]
  iintro ⟨#HI, HO, Hs01, Hr01, Hu01, Hs11, Hr11, Hu11⟩ Hk
  iapply (send X K c 0 1 (dev7_eq c) ((rcvDue c).drop 4) (by rfl) (by rfl) (by rfl) (by rfl)) $$ [Hs01 Hr01 HO Hu01]
  · isplitr; · iexact HI
    isplitl [Hs01]; · iexact Hs01
    isplitl [Hr01]; · iexact Hr01
    isplitl [HO]; · iexact HO
    iexact Hu01
  iintro ⟨Hc01, HO⟩
  iapply (send X K c 1 1 (dev8_eq c) ((rcvDue c).drop 5) (by rfl) (by rfl) (by rfl) (by rfl)) $$ [Hs11 Hr11 HO Hu11]
  · isplitr; · iexact HI
    isplitl [Hs11]; · iexact Hs11
    isplitl [Hr11]; · iexact Hr11
    isplitl [HO]; · iexact HO
    iexact Hu11
  iintro ⟨Hc11, HO⟩
  iapply (ret_step c)
  iapply Hk
  isplitl [Hc01]; · iexact Hc01
  isplitl [Hc11]; · iexact Hc11
  iexact HO

end

variable (In : Dev nD → Ins F)

theorem part10_run {Q : _ → sProp 𝕄} {v2 v163 v294 v334 : BitVec 32} :
    iprop(invs (allCtx In) K ∗ ow c (due c 5) ∗ sPts c 1 (qs 2) (allCtx In c) ∗ (∃ f, rPts (nxt c 2) 2 1 f) ∗ sendUp c 2 1 ∗ stg c cc0_stg4_0 (In c).wo ∗ sPts c 0 qL (allCtx In c) ∗ sPts c 1 qL (allCtx In c) ∗ rcvUp c 0 0)
      ⊢ iprop(((cred (tallyAt (sndCell c 2 1) () N) ∗ ow c 0 ∗ stg c cc0_stg4_0 (In c).wo ∗ sPts c 0 qL (allCtx In c) ∗ sPts c 1 qL (allCtx In c) ∗ rcvGot (allCtx In) c 0 0) -∗ Q (o27 In c))
          -∗ run c (k0_part10 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2 v163 v294 v334) Q) := by
  simp only [k0_part10_eq_skeleton]; unfold k0_part10_skel
  simp only [semSignalWord, semWaitWord, Prog.lift, Prog.bind_op, Prog.bind_ret, Prog.pure_eq_ret, Prog.bind_assoc, wp_deviceId]
  unfold o27 lo ls
  iintro ⟨#HI, HO, Hs21, Hr21, Hu21, Ho, H0, H1, Hw00⟩ Hk
  iapply (send (allCtx In) K c 2 1 (dev9_eq c) ((rcvDue c).drop 6) (by rfl) (by rfl) (by rfl) (by rfl)) $$ [Hs21 Hr21 HO Hu21]
  · isplitr; · iexact HI
    isplitl [Hs21]; · iexact Hs21
    isplitl [Hr21]; · iexact Hr21
    isplitl [HO]; · iexact HO
    iexact Hu21
  iintro ⟨Hc21, HO⟩
  unfold stg sPts
  iapply (wp_load 𝒱₀ (c : Thread nD τ) none Set.univ (m := oM) (Finset.subset_univ _)) $$ Ho; iintro Ho
  have hu := pointsTo_union (Ix := Unit) (Name := ℕ) (U := UU) (Lvl := ℕ) (Val := Elt F) (ℓ := (c : Thread nD τ).loc cc0_scratch0)
    (q := qL) (f := allCtx In c) src_disj
  ihave H := hu.2 $$ [H0 H1]
  · isplitl [H0] <;> iassumption
  iapply (wp_load 𝒱₀ (c : Thread nD τ) none Set.univ (m := hM) (S := srcSet 0 ∪ srcSet 1) (by rw [src_union]; exact Finset.subset_univ _)) $$ H; iintro H
  ihave H' := hu.1 $$ H
  icases H' with ⟨H0, H1⟩
  iapply (recv (allCtx In) K c 0 0 (by rfl)) $$ [Hw00 HO]
  · isplitr; · iexact HI
    isplitl [Hw00]; · iexact Hw00
    iexact HO
  iintro ⟨HO, Hg00⟩
  iapply (ret_step c)
  iapply Hk
  isplitl [Hc21]; · iexact Hc21
  isplitl [HO]; · iexact HO
  isplitl [Ho]; · iexact Ho
  isplitl [H0]; · iexact H0
  isplitl [H1]; · iexact H1
  iexact Hg00

theorem part11_run {Q : _ → sProp 𝕄} {v2 v203 : BitVec 32} :
    iprop(invs (allCtx In) K ∗ ow c 0 ∗ stg c cc0_stg4_0 (In c).wo ∗ rcvGot (allCtx In) c 0 0 ∗ rcvUp c 0 1)
      ⊢ iprop(((ow c 0 ∗ stg c cc0_stg4_0 (In c).wo ∗ rcvGot (allCtx In) c 0 0 ∗ rcvGot (allCtx In) c 0 1) -∗ Q (o28 In c))
          -∗ run c (k0_part11 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2 v203 (o27 In c)) Q) := by
  simp only [k0_part11_eq_skeleton]; unfold k0_part11_skel
  simp only [semSignalWord, semWaitWord, Prog.lift, Prog.bind_op, Prog.bind_ret, Prog.pure_eq_ret, Prog.bind_assoc, wp_deviceId]
  unfold o28 lo lr0
  iintro ⟨#HI, HO, Ho, Hg00, Hw01⟩ Hk
  iapply (recv (allCtx In) K c 0 1 (by rfl)) $$ [Hw01 HO]
  · isplitr; · iexact HI
    isplitl [Hw01]; · iexact Hw01
    iexact HO
  iintro ⟨HO, Hg01⟩
  unfold stg
  iapply (wp_load 𝒱₀ (c : Thread nD τ) none Set.univ (m := oM) (Finset.subset_univ _)) $$ Ho; iintro Ho
  iapply (load_slot (allCtx In) c 0 (by rfl)) $$ [Hg00 Hg01]
  · isplitl [Hg00] <;> iassumption
  iintro ⟨Hg00, Hg01⟩
  iapply (ret_step c)
  iapply Hk
  isplitl [HO]; · iexact HO
  isplitl [Ho]; · iexact Ho
  isplitl [Hg00]; · iexact Hg00
  iexact Hg01

theorem part12_run {Q : _ → sProp 𝕄} {v2 v183 v334 : BitVec 32} :
    iprop(invs (allCtx In) K ∗ ow c 0 ∗ stg c cc0_stg4_0 (In c).wo ∗ rcvUp c 2 0 ∗ rcvUp c 2 1)
      ⊢ iprop((∀ v416, (ow c 0 ∗ stg c cc0_stg4_0 (In c).wo ∗ rcvGot (allCtx In) c 2 0 ∗ rcvGot (allCtx In) c 2 1) -∗ Q ⟨o29 In c, v416, 0#32⟩)
          -∗ run c (k0_part12 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2 v183 v334 (o28 In c)) Q) := by
  simp only [k0_part12_eq_skeleton]; unfold k0_part12_skel
  simp only [semSignalWord, semWaitWord, Prog.lift, Prog.bind_op, Prog.bind_ret, Prog.pure_eq_ret, Prog.bind_assoc, wp_deviceId]
  unfold o29 lo lr2
  iintro ⟨#HI, HO, Ho, Hw20, Hw21⟩ Hk
  iapply (recv (allCtx In) K c 2 0 (by rfl)) $$ [Hw20 HO]
  · isplitr; · iexact HI
    isplitl [Hw20]; · iexact Hw20
    iexact HO
  iintro ⟨HO, Hg20⟩
  iapply (recv (allCtx In) K c 2 1 (by rfl)) $$ [Hw21 HO]
  · isplitr; · iexact HI
    isplitl [Hw21]; · iexact Hw21
    iexact HO
  iintro ⟨HO, Hg21⟩
  unfold stg
  iapply (wp_load 𝒱₀ (c : Thread nD τ) none Set.univ (m := oM) (Finset.subset_univ _)) $$ Ho; iintro Ho
  iapply (load_slot (allCtx In) c 2 (by rfl)) $$ [Hg20 Hg21]
  · isplitl [Hg20] <;> iassumption
  iintro ⟨Hg20, Hg21⟩
  iapply (ret_step c)
  iapply Hk
  isplitl [HO]; · iexact HO
  isplitl [Ho]; · iexact Ho
  isplitl [Hg20]; · iexact Hg20
  iexact Hg21

theorem part13_run {Q : _ → sProp 𝕄} {v2 v314 v416 c0 : BitVec 32} :
    iprop(invs (allCtx In) K ∗ ow c 0 ∗ stg c cc0_stg4_0 (In c).wo ∗ rcvUp c 1 0 ∗ rcvUp c 1 1)
      ⊢ iprop(((ow c 0 ∗ stg c cc0_stg4_0 (In c).wo ∗ rcvGot (allCtx In) c 1 0 ∗ rcvGot (allCtx In) c 1 1) -∗ Q ⟨(k0_pay30 (lo (In c) (k0_off2 c 2#32) (k0_off2_inb c 1))), (k0_pay31 (lr1 In c)), (constant S512x512 .f32 0x00000000#32)⟩)
          -∗ run c (k0_part13 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 c v2 v314 v416 c0) Q) := by
  simp only [k0_part13_eq_skeleton]; unfold k0_part13_skel
  simp only [semSignalWord, semWaitWord, Prog.lift, Prog.bind_op, Prog.bind_ret, Prog.pure_eq_ret, Prog.bind_assoc, wp_deviceId]
  unfold lo lr1
  iintro ⟨#HI, HO, Ho, Hw10, Hw11⟩ Hk
  iapply (recv (allCtx In) K c 1 0 (by rfl)) $$ [Hw10 HO]
  · isplitr; · iexact HI
    isplitl [Hw10]; · iexact Hw10
    iexact HO
  iintro ⟨HO, Hg10⟩
  iapply (recv (allCtx In) K c 1 1 (by rfl)) $$ [Hw11 HO]
  · isplitr; · iexact HI
    isplitl [Hw11]; · iexact Hw11
    iexact HO
  iintro ⟨HO, Hg11⟩
  unfold stg
  iapply (wp_load 𝒱₀ (c : Thread nD τ) none Set.univ (m := oM) (Finset.subset_univ _)) $$ Ho; iintro Ho
  iapply (load_slot (allCtx In) c 1 (by rfl)) $$ [Hg10 Hg11]
  · isplitl [Hg10] <;> iassumption
  iintro ⟨Hg10, Hg11⟩
  iapply (ret_step c)
  iapply Hk
  isplitl [HO]; · iexact HO
  isplitl [Ho]; · iexact Ho
  isplitl [Hg10]; · iexact Hg10
  iexact Hg11

theorem part14_run {Q : _ → sProp 𝕄} (f : OutC F) :
    iprop(invs (allCtx In) K ∗ ow c 0 ∗ stg c cc0_stg5_0 f ∗ sndUp c 0 0 ∗ sndUp c 1 0 ∗ sndUp c 2 0)
      ⊢ iprop(((ow c 0 ∗ stg c cc0_stg5_0 (out In c) ∗ sndGot (allCtx In) c 0 0 ∗ sndGot (allCtx In) c 1 0 ∗ sndGot (allCtx In) c 2 0) -∗ Q ⟨⟩)
          -∗ run c (k0_part14 (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3 (o29 In c) (k0_pay30 (lo (In c) (k0_off2 c 2#32) (k0_off2_inb c 1))) (k0_pay31 (lr1 In c)) (constant S512x512 .f32 0x00000000#32)) Q) := by
  simp only [k0_part14_eq_skeleton]; unfold k0_part14_skel
  simp only [semSignalWord, semWaitWord, Prog.lift, Prog.bind_op, Prog.bind_ret, Prog.pure_eq_ret, Prog.bind_assoc, wp_deviceId]
  unfold out
  iintro ⟨#HI, HO, Hy, Hw00, Hw10, Hw20⟩ Hk
  ihave Hy := (Entails.of_eq (stg_eq c cc0_stg5_0 f)) $$ Hy
  iapply (wp_load 𝒱₀ (c : Thread nD τ) none Set.univ (m := yM) (Finset.subset_univ _)) $$ Hy; iintro Hy
  iapply (wp_store 𝒱₀ (c : Thread nD τ) none Set.univ (m := yM) (r := Rect.unit (s := S2x256x512) ![0, 0, 0] S2x256x512.size inb_S2x256x512_S2x256x512_0_0_0) (Mk := Finset.univ) (S := Finset.univ) (f := f) (Finset.subset_univ _)) $$ Hy; iintro Hy
  ihave Hy := (Entails.of_eq (stg_stored c f _)) $$ Hy
  iapply (sent (allCtx In) K c 0 0 (by rfl)) $$ [Hw00 HO]
  · isplitr; · iexact HI
    isplitl [Hw00]; · iexact Hw00
    iexact HO
  iintro ⟨HO, Hg00⟩
  iapply (sent (allCtx In) K c 1 0 (by rfl)) $$ [Hw10 HO]
  · isplitr; · iexact HI
    isplitl [Hw10]; · iexact Hw10
    iexact HO
  iintro ⟨HO, Hg10⟩
  iapply (sent (allCtx In) K c 2 0 (by rfl)) $$ [Hw20 HO]
  · isplitr; · iexact HI
    isplitl [Hw20]; · iexact Hw20
    iexact HO
  iintro ⟨HO, Hg20⟩
  iapply (ret_step c)
  iapply Hk
  isplitl [HO]; · iexact HO
  isplitl [Hy]; · iexact Hy
  isplitl [Hg00]; · iexact Hg00
  isplitl [Hg10]; · iexact Hg10
  iexact Hg20

end Parts

end Cert.KernelIdeal.Run

end
-- ==== Proof.KernelIdeal.Body.lean ====
/- The whole body on one device, from the parts. -/
module

public import proofs.«01_k».proof.Proof.KernelIdeal.Parts

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The scratch buffers in pieces -/

theorem src_whole (c : Dev nD) (f : SrcC F) :
    (((c : Thread nD τ).loc cc0_scratch0 ↦{fullShare} f : sProp 𝕄)) ⊣⊢ iprop(sPts c 0 fullShare f ∗ sPts c 1 fullShare f) := by
  unfold sPts
  have h := pointsTo_union (Ix := Unit) (Name := ℕ) (U := UU) (Lvl := ℕ) (Val := Elt F) (ℓ := (c : Thread nD τ).loc cc0_scratch0)
    (q := fullShare) (f := f) src_disj
  rw [src_union] at h
  exact h

theorem rcv_disjoint {s s' : Fin 3} {b b' : Fin 2} (h : ¬(s = s' ∧ b = b')) : Disjoint (rcvSet s b) (rcvSet s' b') := by
  rw [Finset.disjoint_left]
  intro i h1 h2
  rw [mem_rcvSet] at h1 h2
  exact h ⟨Fin.ext (h1.1.symm.trans h2.1), Fin.ext (h1.2.symm.trans h2.2)⟩

theorem rcv_union : rcvSet 0 0 ∪ (rcvSet 1 0 ∪ (rcvSet 2 0 ∪ (rcvSet 0 1 ∪ (rcvSet 1 1 ∪ rcvSet 2 1)))) = Finset.univ := by
  ext i
  simp only [Finset.mem_union, mem_rcvSet, Finset.mem_univ, iff_true]
  have h0 : (i 0).val < 3 := (i 0).isLt
  have h1 : (i 1).val < 512 := (i 1).isLt
  have e0 : ((0 : Fin 3).val = 0) := rfl
  have e1 : ((1 : Fin 3).val = 1) := rfl
  have e2 : ((2 : Fin 3).val = 2) := rfl
  have f0 : ((0 : Fin 2).val = 0) := rfl
  have f1 : ((1 : Fin 2).val = 1) := rfl
  rw [e0, e1, e2, f0, f1]
  omega

theorem rcv_whole (c : Dev nD) (f : RcvC F) :
    (((c : Thread nD τ).loc cc0_scratch1 ↦{fullShare} f : sProp 𝕄)) ⊣⊢ all6 (fun s b => rPts c s b f) := by
  unfold all6 rPts
  rw [show (((c : Thread nD τ).loc cc0_scratch1 ↦{fullShare} f : sProp 𝕄))
    = ((c : Thread nD τ).loc cc0_scratch1 ↦[rcvSet 0 0 ∪ (rcvSet 1 0 ∪ (rcvSet 2 0 ∪ (rcvSet 0 1 ∪ (rcvSet 1 1 ∪ rcvSet 2 1))))]{fullShare} f) by rw [rcv_union]]
  have d {A B C : Finset S3x512x256.Idx} (h : Disjoint A B) (k : Disjoint A C) : Disjoint A (B ∪ C) := Finset.disjoint_union_right.mpr ⟨h, k⟩
  have r {s s' : Fin 3} {b b' : Fin 2} (h : ¬(s = s' ∧ b = b')) : Disjoint (rcvSet s b) (rcvSet s' b') := rcv_disjoint h
  have u {A B : Finset S3x512x256.Idx} (h : Disjoint A B) := pointsTo_union (Ix := Unit) (Name := ℕ) (U := UU) (Lvl := ℕ) (Val := Elt F)
    (ℓ := (c : Thread nD τ).loc cc0_scratch1) (q := fullShare) (f := f) h
  have h5 := u (r (s := 1) (s' := 2) (b := 1) (b' := 1) (by decide))
  have h4 := u (d (r (s := 0) (s' := 1) (b := 1) (b' := 1) (by decide)) (r (s' := 2) (b' := 1) (by decide)))
  have h3 := u (d (r (s := 2) (s' := 0) (b := 0) (b' := 1) (by decide)) (d (r (s' := 1) (b' := 1) (by decide)) (r (s' := 2) (b' := 1) (by decide))))
  have h2 := u (d (r (s := 1) (s' := 2) (b := 0) (b' := 0) (by decide)) (d (r (s' := 0) (b' := 1) (by decide)) (d (r (s' := 1) (b' := 1) (by decide)) (r (s' := 2) (b' := 1) (by decide)))))
  have h1 := u (d (r (s := 0) (s' := 1) (b := 0) (b' := 0) (by decide)) (d (r (s' := 2) (b' := 0) (by decide)) (d (r (s' := 0) (b' := 1) (by decide)) (d (r (s' := 1) (b' := 1) (by decide)) (r (s' := 2) (b' := 1) (by decide))))))
  exact ⟨h1.1.trans (BIClass.sep_mono (BI.Entails.refl _) (h2.1.trans (BIClass.sep_mono (BI.Entails.refl _) (h3.1.trans (BIClass.sep_mono (BI.Entails.refl _)
      (h4.1.trans (BIClass.sep_mono (BI.Entails.refl _) h5.1))))))),
    (BIClass.sep_mono (BI.Entails.refl _) ((BIClass.sep_mono (BI.Entails.refl _) ((BIClass.sep_mono (BI.Entails.refl _)
      ((BIClass.sep_mono (BI.Entails.refl _) h5.2).trans h4.2)).trans h3.2)).trans h2.2)).trans h1.2⟩

/-! ## The body -/

section Body

variable (In : Dev nD → Ins F) (K : GSem nD τ sig → ℕ) (c : Dev nD)

/-- The five input windows. -/
def wins : sProp 𝕄 :=
  iprop(stg c cc0_stg0_0 (In c).x ∗ stg c cc0_stg1_0 (In c).wq ∗ stg c cc0_stg2_0 (In c).k ∗ stg c cc0_stg3_0 (In c).v ∗ stg c cc0_stg4_0 (In c).wo)

def scratch0Any : sProp 𝕄 := iprop(∃ f, (c : Thread nD τ).loc cc0_scratch0 ↦{fullShare} f)
def scratch1Any : sProp 𝕄 := iprop(∃ f, (c : Thread nD τ).loc cc0_scratch1 ↦{fullShare} f)

def bodyPre : sProp 𝕄 :=
  iprop(opened (allCtx In) K c ∗ creds c ∗ levAts L lv ∗ ow c (O₀ c) ∗ scratch0Any c ∗ scratch1Any c ∗ wins In c ∗ (∃ f, stg c cc0_stg5_0 f))

/-- Every cell of the device at zero. -/
def spent : sProp 𝕄 :=
  iprop(semVal (barCell c) 0 ∗ all6 (fun s b => semVal (sndCell c s b) 0) ∗ all6 (fun s b => semVal (rcvCell c s b) 0))

def bodyPost : sProp 𝕄 :=
  iprop(ow c 0 ∗ spent c ∗ scratch0Any c ∗ scratch1Any c ∗ wins In c ∗ stg c cc0_stg5_0 (out In c))

theorem bind_step {α β : Type} {Q : β → sProp 𝕄} (p : Prog (TpuEff nD τ sig (Elt F) Λ₀ .tc) α) (k : α → Prog (TpuEff nD τ sig (Elt F) Λ₀ .tc) β) :
    run c p (fun a => run c (k a) Q) ⊢ run c (p >>= k) Q := by
  unfold run
  rw [wp_bind]

set_option maxHeartbeats 1600000 in
theorem body_run {Q : PUnit → sProp 𝕄} :
    bodyPre In K c ⊢ iprop((bodyPost In c -∗ Q ⟨⟩)
      -∗ run c (cc0_body (F := F) xM (Memref.isWhole_whole _) qM (Memref.isWhole_whole _) kM (Memref.isWhole_whole _) vM (Memref.isWhole_whole _) oM (Memref.isWhole_whole _) yM (Memref.isWhole_whole _) hM (Memref.isWhole_whole _) gM (Memref.isWhole_whole _) cc0_scratch2 cc0_scratch3) Q) := by
  unfold bodyPre opened creds wins scratch0Any scratch1Any toks all6 all3
  iintro ⟨⟨#HI, Hat, ⟨Ap00, Ap10, Ap20, Ap01, Ap11, Ap21⟩, ⟨Aq00, Aq10, Aq20, Aq01, Aq11, Aq21⟩, ⟨#Rs00, #Rs10, #Rs20, #Rs01, #Rs11, #Rs21⟩, ⟨#Rr00, #Rr10, #Rr20, #Rr01, #Rr11, #Rr21⟩, ⟨#Rb0, #Rb1, #Rb2⟩, ⟨⟨Tb0, Tb1, Tb2⟩, ⟨Tr00, Tr10, Tr20, Tr01, Tr11, Tr21⟩, ⟨Ts00, Ts10, Ts20, Ts01, Ts11, Ts21⟩⟩⟩,
    ⟨Cb, ⟨Cr00, Cr10, Cr20, Cr01, Cr11, Cr21⟩⟩, #Hlev, HO, ⟨%f0, Hs⟩, ⟨%f1, Hr⟩, ⟨Hx, Hq, Hk, Hv, Ho⟩, ⟨%fy, Hy⟩⟩ Hend
  ihave Hs' := (src_whole c f0).1 $$ Hs
  icases Hs' with ⟨HS0, HS1⟩
  ihave Hr' := (rcv_whole c f1).1 $$ Hr
  unfold all6
  icases Hr' with ⟨Hl00, Hl10, Hl20, Hl01, Hl11, Hl21⟩
  simp only [cc0_body_eq_skeleton]; unfold cc0_body_skel
  try dsimp only
  iapply (bind_step c)
  iapply (part1_run (allCtx In) K c) $$ [HO Tb0 Hl20 Hl21 Tb1 Hl10 Hl11]
  · isplitr; · iexact HI
    isplitl [HO]; · iexact HO
    isplitl [Tb0 Hl20 Hl21]
    · unfold barUp
      isplitl [Tb0]; · iexact Tb0
      isplitr; · iexact Rb0
      isplitl [Hl20]
      · iexists _
        iexact Hl20
      isplitl [Hl21]
      · iexists _
        iexact Hl21
      isplitr; · iexact Rr20
      iexact Rr21
    unfold barUp
    isplitl [Tb1]; · iexact Tb1
    isplitr; · iexact Rb1
    isplitl [Hl10]
    · iexists _
      iexact Hl10
    isplitl [Hl11]
    · iexists _
      iexact Hl11
    isplitr; · iexact Rr10
    iexact Rr11
  iintro %v2 %v30 %c4 %v31 HO
  try dsimp only
  iapply (bind_step c)
  iapply (part2_run (allCtx In) K c (In c)) $$ [HO Tb2 Hl00 Hl01 Hx Hq]
  · isplitr; · iexact HI
    isplitl [HO]; · iexact HO
    isplitl [Tb2 Hl00 Hl01]
    · unfold barUp
      isplitl [Tb2]; · iexact Tb2
      isplitr; · iexact Rb2
      isplitl [Hl00]
      · iexists _
        iexact Hl00
      isplitl [Hl01]
      · iexists _
        iexact Hl01
      isplitr; · iexact Rr00
      iexact Rr01
    isplitl [Hx]; · iexact Hx
    iexact Hq
  iintro ⟨HO, Hx, Hq⟩
  try dsimp only
  iapply (bind_step c)
  iapply (part3_run c (In c)) $$ [Hk Hv]
  · isplitl [Hk]; · iexact Hk
    iexact Hv
  iintro ⟨Hk, Hv⟩
  try dsimp only
  iapply (bind_step c)
  iapply (part4_run (allCtx In) K c (In c) f0) $$ [HS0 HO Cb Hat]
  · isplitr; · iexact HI
    isplitl [HS0]; · iexact HS0
    isplitl [HO]; · iexact HO
    isplitr; · iexact Hlev
    isplitl [Cb]; · iexact Cb
    iexact Hat
  iintro %v155 %v156 ⟨HS0, HO, Hat, HP0, HP1, HP2⟩
  unfold barPay
  icases HP0 with ⟨Hd00, Hd01, #Rn00, #Rn01⟩
  icases HP1 with ⟨Hd10, Hd11, #Rn10, #Rn11⟩
  icases HP2 with ⟨Hd20, Hd21, #Rn20, #Rn21⟩
  ihave HQ0 := (sPts_quarters c 0 (ctx (In c))).1 $$ HS0
  icases HQ0 with ⟨⟨Hp00, Hp10⟩, ⟨Hp20, HL0⟩⟩
  try dsimp only
  iapply (bind_step c)
  iapply (part5_run (allCtx In) K c) $$ [HO Hp00 Hd00 Ts00 Tr00]
  · isplitr; · iexact HI
    isplitl [HO]; · iexact HO
    isplitl [Hp00]; · iexact Hp00
    isplitl [Hd00]; · iexact Hd00
    unfold sendUp
    isplitl [Ts00]; · iexact Ts00
    isplitr; · iexact Rs00
    isplitl [Tr00]; · iexact Tr00
    iexact Rn00
  iintro %v163 %v183 ⟨Hc00, HO⟩
  try dsimp only
  iapply (bind_step c)
  iapply (part6_run (allCtx In) K c (In c)) $$ [HO Hp10 Hd10 Ts10 Tr10 Hp20 Hd20 Ts20 Tr20 Hk Hv]
  · isplitr; · iexact HI
    isplitl [HO]; · iexact HO
    isplitl [Hp10]; · iexact Hp10
    isplitl [Hd10]; · iexact Hd10
    isplitl [Ts10 Tr10]
    · unfold sendUp
      isplitl [Ts10]; · iexact Ts10
      isplitr; · iexact Rs10
      isplitl [Tr10]; · iexact Tr10
      iexact Rn10
    isplitl [Hp20]; · iexact Hp20
    isplitl [Hd20]; · iexact Hd20
    isplitl [Ts20 Tr20]
    · unfold sendUp
      isplitl [Ts20]; · iexact Ts20
      isplitr; · iexact Rs20
      isplitl [Tr20]; · iexact Tr20
      iexact Rn20
    isplitl [Hk]; · iexact Hk
    iexact Hv
  iintro %v203 ⟨Hc10, Hc20, HO, Hk, Hv⟩
  try dsimp only
  iapply (bind_step c)
  iapply (part7_run c (In c))
  try dsimp only
  iapply (bind_step c)
  iapply (part8_run c (In c) f0) $$ [HS1]
  · iexact HS1
  iintro %v294 HS1
  ihave HQ1 := (sPts_quarters c 1 (ctx (In c))).1 $$ HS1
  icases HQ1 with ⟨⟨Hp01, Hp11⟩, ⟨Hp21, HL1⟩⟩
  try dsimp only
  iapply (bind_step c)
  iapply (part9_run (allCtx In) K c) $$ [HO Hp01 Hd01 Ts01 Tr01 Hp11 Hd11 Ts11 Tr11]
  · isplitr; · iexact HI
    isplitl [HO]; · iexact HO
    isplitl [Hp01]; · iexact Hp01
    isplitl [Hd01]; · iexact Hd01
    isplitl [Ts01 Tr01]
    · unfold sendUp
      isplitl [Ts01]; · iexact Ts01
      isplitr; · iexact Rs01
      isplitl [Tr01]; · iexact Tr01
      iexact Rn01
    isplitl [Hp11]; · iexact Hp11
    isplitl [Hd11]; · iexact Hd11
    unfold sendUp
    isplitl [Ts11]; · iexact Ts11
    isplitr; · iexact Rs11
    isplitl [Tr11]; · iexact Tr11
    iexact Rn11
  iintro %v314 %v334 ⟨Hc01, Hc11, HO⟩
  try dsimp only
  iapply (bind_step c)
  iapply (part10_run K c In) $$ [HO Hp21 Hd21 Ts21 Tr21 Ho HL0 HL1 Cr00 Aq00]
  · isplitr; · iexact HI
    isplitl [HO]; · iexact HO
    isplitl [Hp21]; · iexact Hp21
    isplitl [Hd21]; · iexact Hd21
    isplitl [Ts21 Tr21]
    · unfold sendUp
      isplitl [Ts21]; · iexact Ts21
      isplitr; · iexact Rs21
      isplitl [Tr21]; · iexact Tr21
      iexact Rn21
    isplitl [Ho]; · iexact Ho
    isplitl [HL0]; · iexact HL0
    isplitl [HL1]; · iexact HL1
    unfold rcvUp
    isplitl [Cr00]; · iexact Cr00
    iexact Aq00
  iintro ⟨Hc21, HO, Ho, HL0, HL1, Hg00⟩
  try dsimp only
  iapply (bind_step c)
  iapply (part11_run K c In) $$ [HO Ho Hg00 Cr01 Aq01]
  · isplitr; · iexact HI
    isplitl [HO]; · iexact HO
    isplitl [Ho]; · iexact Ho
    isplitl [Hg00]; · iexact Hg00
    unfold rcvUp
    isplitl [Cr01]; · iexact Cr01
    iexact Aq01
  iintro ⟨HO, Ho, Hg00, Hg01⟩
  try dsimp only
  iapply (bind_step c)
  iapply (part12_run K c In) $$ [HO Ho Cr20 Aq20 Cr21 Aq21]
  · isplitr; · iexact HI
    isplitl [HO]; · iexact HO
    isplitl [Ho]; · iexact Ho
    isplitl [Cr20 Aq20]
    · unfold rcvUp
      isplitl [Cr20]; · iexact Cr20
      iexact Aq20
    unfold rcvUp
    isplitl [Cr21]; · iexact Cr21
    iexact Aq21
  iintro %v416 ⟨HO, Ho, Hg20, Hg21⟩
  try dsimp only
  iapply (bind_step c)
  iapply (part13_run K c In) $$ [HO Ho Cr10 Aq10 Cr11 Aq11]
  · isplitr; · iexact HI
    isplitl [HO]; · iexact HO
    isplitl [Ho]; · iexact Ho
    isplitl [Cr10 Aq10]
    · unfold rcvUp
      isplitl [Cr10]; · iexact Cr10
      iexact Aq10
    unfold rcvUp
    isplitl [Cr11]; · iexact Cr11
    iexact Aq11
  iintro ⟨HO, Ho, Hg10, Hg11⟩
  try dsimp only
  iapply (bind_step c)
  iapply (part14_run K c In fy) $$ [HO Hy Hc00 Ap00 Hc10 Ap10 Hc20 Ap20]
  · isplitr; · iexact HI
    isplitl [HO]; · iexact HO
    isplitl [Hy]; · iexact Hy
    isplitl [Hc00 Ap00]
    · unfold sndUp
      isplitl [Hc00]; · iexact Hc00
      iexact Ap00
    isplitl [Hc10 Ap10]
    · unfold sndUp
      isplitl [Hc10]; · iexact Hc10
      iexact Ap10
    unfold sndUp
    isplitl [Hc20]; · iexact Hc20
    iexact Ap20
  iintro ⟨HO, Hy, Hh00, Hh10, Hh20⟩
  simp only [Prog.lift, Prog.bind_op, Prog.bind_ret, Prog.pure_eq_ret, Prog.bind_assoc]
  iapply (sent (allCtx In) K c 0 1 (by rfl)) $$ [Hc01 Ap01 HO]
  · isplitr; · iexact HI
    isplitl [Hc01 Ap01]
    · unfold sndUp
      isplitl [Hc01]; · iexact Hc01
      iexact Ap01
    iexact HO
  iintro ⟨HO, Hh01⟩
  iapply (sent (allCtx In) K c 1 1 (by rfl)) $$ [Hc11 Ap11 HO]
  · isplitr; · iexact HI
    isplitl [Hc11 Ap11]
    · unfold sndUp
      isplitl [Hc11]; · iexact Hc11
      iexact Ap11
    iexact HO
  iintro ⟨HO, Hh11⟩
  iapply (sent (allCtx In) K c 2 1 (by rfl)) $$ [Hc21 Ap21 HO]
  · isplitr; · iexact HI
    isplitl [Hc21 Ap21]
    · unfold sndUp
      isplitl [Hc21]; · iexact Hc21
      iexact Ap21
    iexact HO
  iintro ⟨HO, Hh21⟩
  unfold run; rw [wp_ret]
  unfold rcvGot sndGot
  icases Hg00 with ⟨Aq00, Hl00⟩
  icases Hh00 with ⟨Ap00, Hp00⟩
  icases Hg10 with ⟨Aq10, Hl10⟩
  icases Hh10 with ⟨Ap10, Hp10⟩
  icases Hg20 with ⟨Aq20, Hl20⟩
  icases Hh20 with ⟨Ap20, Hp20⟩
  icases Hg01 with ⟨Aq01, Hl01⟩
  icases Hh01 with ⟨Ap01, Hp01⟩
  icases Hg11 with ⟨Aq11, Hl11⟩
  icases Hh11 with ⟨Ap11, Hp11⟩
  icases Hg21 with ⟨Aq21, Hl21⟩
  icases Hh21 with ⟨Ap21, Hp21⟩
  ihave #Hi := (inv_bar (allCtx In) K c) $$ HI
  imod (close (allCtx In) (K (barCell c)) (barCell c)) $$ [Hat] with Zb
  · isplitr; · iexact Hi
    iexact Hat
  iclear Hi
  ihave #Hi := (inv_snd (allCtx In) K c 0 0) $$ HI
  imod (close (allCtx In) (K (sndCell c 0 0)) (sndCell c 0 0)) $$ [Ap00] with Zs00
  · isplitr; · iexact Hi
    iexact Ap00
  iclear Hi
  ihave #Hi := (inv_rcv (allCtx In) K c 0 0) $$ HI
  imod (close (allCtx In) (K (rcvCell c 0 0)) (rcvCell c 0 0)) $$ [Aq00] with Zr00
  · isplitr; · iexact Hi
    iexact Aq00
  iclear Hi
  ihave #Hi := (inv_snd (allCtx In) K c 1 0) $$ HI
  imod (close (allCtx In) (K (sndCell c 1 0)) (sndCell c 1 0)) $$ [Ap10] with Zs10
  · isplitr; · iexact Hi
    iexact Ap10
  iclear Hi
  ihave #Hi := (inv_rcv (allCtx In) K c 1 0) $$ HI
  imod (close (allCtx In) (K (rcvCell c 1 0)) (rcvCell c 1 0)) $$ [Aq10] with Zr10
  · isplitr; · iexact Hi
    iexact Aq10
  iclear Hi
  ihave #Hi := (inv_snd (allCtx In) K c 2 0) $$ HI
  imod (close (allCtx In) (K (sndCell c 2 0)) (sndCell c 2 0)) $$ [Ap20] with Zs20
  · isplitr; · iexact Hi
    iexact Ap20
  iclear Hi
  ihave #Hi := (inv_rcv (allCtx In) K c 2 0) $$ HI
  imod (close (allCtx In) (K (rcvCell c 2 0)) (rcvCell c 2 0)) $$ [Aq20] with Zr20
  · isplitr; · iexact Hi
    iexact Aq20
  iclear Hi
  ihave #Hi := (inv_snd (allCtx In) K c 0 1) $$ HI
  imod (close (allCtx In) (K (sndCell c 0 1)) (sndCell c 0 1)) $$ [Ap01] with Zs01
  · isplitr; · iexact Hi
    iexact Ap01
  iclear Hi
  ihave #Hi := (inv_rcv (allCtx In) K c 0 1) $$ HI
  imod (close (allCtx In) (K (rcvCell c 0 1)) (rcvCell c 0 1)) $$ [Aq01] with Zr01
  · isplitr; · iexact Hi
    iexact Aq01
  iclear Hi
  ihave #Hi := (inv_snd (allCtx In) K c 1 1) $$ HI
  imod (close (allCtx In) (K (sndCell c 1 1)) (sndCell c 1 1)) $$ [Ap11] with Zs11
  · isplitr; · iexact Hi
    iexact Ap11
  iclear Hi
  ihave #Hi := (inv_rcv (allCtx In) K c 1 1) $$ HI
  imod (close (allCtx In) (K (rcvCell c 1 1)) (rcvCell c 1 1)) $$ [Aq11] with Zr11
  · isplitr; · iexact Hi
    iexact Aq11
  iclear Hi
  ihave #Hi := (inv_snd (allCtx In) K c 2 1) $$ HI
  imod (close (allCtx In) (K (sndCell c 2 1)) (sndCell c 2 1)) $$ [Ap21] with Zs21
  · isplitr; · iexact Hi
    iexact Ap21
  iclear Hi
  ihave #Hi := (inv_rcv (allCtx In) K c 2 1) $$ HI
  imod (close (allCtx In) (K (rcvCell c 2 1)) (rcvCell c 2 1)) $$ [Aq21] with Zr21
  · isplitr; · iexact Hi
    iexact Aq21
  iclear Hi
  imodintro
  iapply Hend
  unfold bodyPost spent scratch0Any scratch1Any wins all6
  isplitl [HO]; · iexact HO
  isplitl [Zb Zs00 Zs10 Zs20 Zs01 Zs11 Zs21 Zr00 Zr10 Zr20 Zr01 Zr11 Zr21]
  · isplitl [Zb]; · iexact Zb
    isplitl [Zs00 Zs10 Zs20 Zs01 Zs11 Zs21]
    · isplitl [Zs00]; · iexact Zs00
      isplitl [Zs10]; · iexact Zs10
      isplitl [Zs20]; · iexact Zs20
      isplitl [Zs01]; · iexact Zs01
      isplitl [Zs11]; · iexact Zs11
      iexact Zs21
    isplitl [Zr00]; · iexact Zr00
    isplitl [Zr10]; · iexact Zr10
    isplitl [Zr20]; · iexact Zr20
    isplitl [Zr01]; · iexact Zr01
    isplitl [Zr11]; · iexact Zr11
    iexact Zr21
  isplitl [Hp00 Hp10 Hp20 HL0 Hp01 Hp11 Hp21 HL1]
  · iexists (ctx (In c))
    iapply (src_whole c _).2
    isplitl [Hp00 Hp10 Hp20 HL0]
    · iapply (sPts_quarters c 0 _).2
      isplitl [Hp00 Hp10]
      · isplitl [Hp00]; · iexact Hp00
        iexact Hp10
      isplitl [Hp20]; · iexact Hp20
      iexact HL0
    iapply (sPts_quarters c 1 _).2
    isplitl [Hp01 Hp11]
    · isplitl [Hp01]; · iexact Hp01
      iexact Hp11
    isplitl [Hp21]; · iexact Hp21
    iexact HL1
  isplitl [Hl00 Hl10 Hl20 Hl01 Hl11 Hl21]
  · iexists (landed (allCtx In) c)
    iapply (rcv_whole c _).2
    unfold all6
    isplitl [Hl00]; · iexact Hl00
    isplitl [Hl10]; · iexact Hl10
    isplitl [Hl20]; · iexact Hl20
    isplitl [Hl01]; · iexact Hl01
    isplitl [Hl11]; · iexact Hl11
    iexact Hl21
  isplitl [Hx Hq Hk Hv Ho]
  · isplitl [Hx]; · iexact Hx
    isplitl [Hq]; · iexact Hq
    isplitl [Hk]; · iexact Hk
    isplitl [Hv]; · iexact Hv
    iexact Ho
  iexact Hy

end Body

end Cert.KernelIdeal.Run

end
-- ==== Proof.KernelIdeal.Region.lean ====
/- The kernel's region: what the pipeline is told about it, its body at the one grid point, and its
   record, entered with the protocol's launch state and left with every cell at zero. -/
module

public import proofs.«01_k».proof.Proof.KernelIdeal.Body
public import proofs.«01_k».proof.Proof.Gen.KernelIdeal.Points
public import Idealize.ShloMosaic.Lib.Pipeline.RegionTalk

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The contents -/

/-- What the input arrays hold when the kernel starts. -/
def ins (c : Dev nD) : Ins F where
  x := V1 m c main_arg0
  wq := V1 m c main_v9
  k := V1 m c main_v10
  v := V1 m c main_v11
  wo := V1 m c main_arg4

/-- What the output array holds when it ends. -/
def outs : Outs (F := F) := fun _ r c => if h : r = main_v12 then h ▸ (out (ins m) c : (main_v12 : Ref sig .tc).ty.Contents (Elt F)) else V1 m c r

theorem outs_v12 (n : ℕ) (c : Dev nD) : outs m n main_v12 c = out (ins m) c := dif_pos rfl

/-! ## The pipeline's data -/

/-- Nothing but the scratch buffers, the random register and the protocol rides with the kernel. -/
def before' (c : Dev nD) : sProp 𝕄 :=
  iprop((∃ K, opened (allCtx (ins m)) K c) ∗ creds c ∗ levAts L lv ∗ scratch0Any c ∗ scratch1Any c ∗ ∃ r, prngReg c r)
def after' (c : Dev nD) : sProp 𝕄 := iprop(spent c ∗ scratch0Any c ∗ scratch1Any c ∗ ∃ r, prngReg c r)

def dat (c : Dev nD) : Dat τ (Elt F) Unit ℕ UU ℕ cfg0 c where
  A w := match w with
    | 0 => V1 m c main_arg0 | 1 => V1 m c main_v9 | 2 => V1 m c main_v10 | 3 => V1 m c main_v11 | 4 => V1 m c main_arg4 | 5 => V1 m c main_v12
  after w _ := match w with
    | 0 => (ins m c).x | 1 => (ins m c).wq | 2 => (ins m c).k | 3 => (ins m c).v | 4 => (ins m c).wo | 5 => out (ins m) c
  Φ t := if t.val = 0 then before' m c else after' c
  q _ := fullShare
  owed t := if t.val = 0 then O₀ c else 0

def pdats : (p : Fin 1) → (c : Dev nD) → Dat τ (Elt F) Unit ℕ UU ℕ (cfgs p) c
  | 0 => dat m

variable (c : Dev nD)

theorem Φ_first : (dat m c).Φ t0_0.castSucc = before' m c := by
  show (if (t0_0.castSucc).val = 0 then before' m c else after' c) = _
  exact if_pos rfl
theorem Φ_last : (dat m c).Φ t0_0.succ = after' (F := F) c := by
  show (if (t0_0.succ).val = 0 then before' m c else after' c) = _
  exact if_neg (by decide)
theorem owed_first : (dat m c).owed t0_0.castSucc = O₀ c := by
  show (if (t0_0.castSucc).val = 0 then O₀ c else 0) = _
  exact if_pos rfl
theorem owed_end : (dat m c).owed (Fin.last cfg0.N) = 0 := by
  show (if (Fin.last cfg0.N).val = 0 then O₀ c else 0) = _
  exact if_neg (by decide)
theorem owed_last : (dat m c).owed t0_0.succ = 0 := by
  show (if (t0_0.succ).val = 0 then O₀ c else 0) = _
  exact if_neg (by decide)

theorem read0 (f : Buf (Elt F) ((c : Thread nD τ).loc main_arg0)) : ((cfg0.win 0).blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f
theorem read1 (f : Buf (Elt F) ((c : Thread nD τ).loc main_v9)) : ((cfg0.win 1).blk t0_0).view.read (Elt F) f = f :=
  Memref.read_access_unit_zero (Elt F) main_v9
    (show (fun a => (win0_1.index t0_0) a * main_v9.ty.shape.size a) = fun _ => 0 from
      funext fun a => by fin_cases a <;> decide) (fun a => by fin_cases a <;> decide) f
theorem read2 (f : Buf (Elt F) ((c : Thread nD τ).loc main_v10)) : ((cfg0.win 2).blk t0_0).view.read (Elt F) f = f :=
  Memref.read_access_unit_zero (Elt F) main_v10
    (show (fun a => (win0_2.index t0_0) a * main_v10.ty.shape.size a) = fun _ => 0 from
      funext fun a => by fin_cases a <;> decide) (fun a => by fin_cases a <;> decide) f
theorem read3 (f : Buf (Elt F) ((c : Thread nD τ).loc main_v11)) : ((cfg0.win 3).blk t0_0).view.read (Elt F) f = f :=
  Memref.read_access_unit_zero (Elt F) main_v11
    (show (fun a => (win0_3.index t0_0) a * main_v11.ty.shape.size a) = fun _ => 0 from
      funext fun a => by fin_cases a <;> decide) (fun a => by fin_cases a <;> decide) f
theorem read4 (f : Buf (Elt F) ((c : Thread nD τ).loc main_arg4)) : ((cfg0.win 4).blk t0_0).view.read (Elt F) f = f :=
  Memref.read_access_unit_zero (Elt F) main_arg4
    (show (fun a => (win0_4.index t0_0) a * main_arg4.ty.shape.size a) = fun _ => 0 from
      funext fun a => by fin_cases a <;> decide) (fun a => by fin_cases a <;> decide) f
theorem read5 (f : Buf (Elt F) ((c : Thread nD τ).loc main_v12)) : ((cfg0.win 5).blk t0_0).view.read (Elt F) f = f :=
  Memref.read_access_unit_zero (Elt F) main_v12
    (show (fun a => (win0_5.index t0_0) a * main_v12.ty.shape.size a) = fun _ => 0 from
      funext fun a => by fin_cases a <;> decide) (fun a => by fin_cases a <;> decide) f

theorem fetch0 (D : Dat τ (Elt F) Unit ℕ UU ℕ cfg0 c) (f : Buf (Elt F) ((c : Thread nD τ).loc main_arg0)) (h : D.A 0 = f) (d) : D.fetched 0 t0_0 d = f := by
  subst h
  exact read0 (F := F) c _
theorem fetch1 (D : Dat τ (Elt F) Unit ℕ UU ℕ cfg0 c) (f : Buf (Elt F) ((c : Thread nD τ).loc main_v9)) (h : D.A 1 = f) (d) : D.fetched 1 t0_0 d = f := by
  subst h
  exact read1 (F := F) c _
theorem fetch2 (D : Dat τ (Elt F) Unit ℕ UU ℕ cfg0 c) (f : Buf (Elt F) ((c : Thread nD τ).loc main_v10)) (h : D.A 2 = f) (d) : D.fetched 2 t0_0 d = f := by
  subst h
  exact read2 (F := F) c _
theorem fetch3 (D : Dat τ (Elt F) Unit ℕ UU ℕ cfg0 c) (f : Buf (Elt F) ((c : Thread nD τ).loc main_v11)) (h : D.A 3 = f) (d) : D.fetched 3 t0_0 d = f := by
  subst h
  exact read3 (F := F) c _
theorem fetch4 (D : Dat τ (Elt F) Unit ℕ UU ℕ cfg0 c) (f : Buf (Elt F) ((c : Thread nD τ).loc main_arg4)) (h : D.A 4 = f) (d) : D.fetched 4 t0_0 d = f := by
  subst h
  exact read4 (F := F) c _

theorem before0 (d) : (dat m c).before 0 t0_0 d = (ins m c).x := by
  unfold Dat.before; rw [if_pos (fetch0_0 t0_0)]; exact fetch0 c (dat m c) (V1 m c main_arg0) rfl d
theorem before1 (d) : (dat m c).before 1 t0_0 d = (ins m c).wq := by
  unfold Dat.before; rw [if_pos (fetch0_1 t0_0)]; exact fetch1 c (dat m c) (V1 m c main_v9) rfl d
theorem before2 (d) : (dat m c).before 2 t0_0 d = (ins m c).k := by
  unfold Dat.before; rw [if_pos (fetch0_2 t0_0)]; exact fetch2 c (dat m c) (V1 m c main_v10) rfl d
theorem before3 (d) : (dat m c).before 3 t0_0 d = (ins m c).v := by
  unfold Dat.before; rw [if_pos (fetch0_3 t0_0)]; exact fetch3 c (dat m c) (V1 m c main_v11) rfl d
theorem before4 (d) : (dat m c).before 4 t0_0 d = (ins m c).wo := by
  unfold Dat.before; rw [if_pos (fetch0_4 t0_0)]; exact fetch4 c (dat m c) (V1 m c main_arg4) rfl d

/-- The arrays at the end: the inputs as they were, the output what the body left. -/
theorem final5 : (dat m c).arrAt 5 cfg0.N = out (ins m) c := by
  have hw : ((cfg0.win 5).blk t0_0).view.read (Elt F) ((dat m c).arrAt 5 cfg0.N) = (dat m c).flushed 5 t0_0 := by
    rw [show cfg0.N = t0_0.val + 1 from rfl, (dat m c).arrAt_succ (5 : Fin 6) t0_0, flush0_5, if_pos rfl]
    exact View.read_write_univ _ _
  exact (read5 (F := F) c _).symm.trans hw

/-! ## The body at the one grid point -/

theorem owns_at (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

theorem owes_in : (dat m c).owesAt () t0_0.castSucc ⊢ (ow c (O₀ c) : sProp 𝕄) := by
  unfold Dat.owesAt Pipeline.owesWithin
  rw [owed_first]
  iintro ⟨%W, -, HO⟩
  unfold ow
  iexists W; iexact HO
theorem owes_out : (ow c 0 : sProp 𝕄) ⊢ (dat m c).owesAt () t0_0.succ := by
  unfold Dat.owesAt Pipeline.owesWithin Dat.bound ow
  rw [owed_last, show (dat m c).recorded t0_0.succ = Set.univ from rfl]
  iintro ⟨%W, HO⟩
  iexists W
  isplitr
  · ipureintro; exact fun _ _ => Or.inl trivial
  iexact HO

set_option maxRecDepth 4000 in
theorem body (c : Dev nD) : BodyObligation (dat m c) (defs₀ (F := F)) 𝒱₀ () Set.univ := fun t => by
  obtain rfl := fin_N0 t
  rw [bigSep_W0, bigSep_W0]
  simp only [owns_at]
  rw [Φ_first, Φ_last]
  unfold before' after'
  iintro ⟨⟨⟨%K, HK⟩, HC, HL, Hs, Hr, Hp⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0] at hf0; rw [before1] at hf1; rw [before2] at hf2; rw [before3] at hf3; rw [before4] at hf4
  subst hf0; subst hf1; subst hf2; subst hf3; subst hf4
  ihave HO' := (owes_in m c) $$ HO
  iapply (body_run (ins m) K c) $$ [HK HC HL Hs Hr HO' H0 H1 H2 H3 H4 H5]
  · unfold bodyPre wins stg
    isplitl [HK]; · iexact HK
    isplitl [HC]; · iexact HC
    isplitl [HL]; · iexact HL
    isplitl [HO']; · iexact HO'
    isplitl [Hs]; · iexact Hs
    isplitl [Hr]; · iexact Hr
    isplitl [H0 H1 H2 H3 H4]
    · isplitl [H0]; · iexact H0
      isplitl [H1]; · iexact H1
      isplitl [H2]; · iexact H2
      isplitl [H3]; · iexact H3
      iexact H4
    iexists f5; iexact H5
  unfold bodyPost wins stg
  iintro ⟨HO, HS, Hs, Hr, ⟨H0, H1, H2, H3, H4⟩, H5⟩
  isplitl [HS Hs Hr Hp]
  · isplitl [HS]; · iexact HS
    isplitl [Hs]; · iexact Hs
    isplitl [Hr]; · iexact Hr
    iexact Hp
  isplitl [HO]
  · iapply (owes_out m c); iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  isplitl [H3]
  · iexists _; isplitr; swap; (· iexact H3); ipureintro; rfl
  isplitl [H4]
  · iexists _; isplitr; swap; (· iexact H4); ipureintro; rfl
  iexists _; isplitr; swap; (· iexact H5); ipureintro; rfl

/-! ## The region's own cells, opened on entry -/

/-- The twelve cells the region opens: those counting what has been sent, then those counting what has landed. -/
def osem (k : Fin 12) : SemLoc sig := .dma ⟨6 + k.val, by show _ < 18; omega⟩

theorem ownSems_eq (c : Dev nD) :
    (Pipeline.ownSems0 (Ix := Unit) (Name := ℕ) (U := UU) (Lvl := ℕ) (Val := Elt F) (τ := τ) osem c : sProp 𝕄)
      = iprop(semVal (sndCell c 0 0) 0 ∗ semVal (sndCell c 0 1) 0 ∗ semVal (sndCell c 1 0) 0 ∗ semVal (sndCell c 1 1) 0 ∗ semVal (sndCell c 2 0) 0 ∗ semVal (sndCell c 2 1) 0
        ∗ semVal (rcvCell c 0 0) 0 ∗ semVal (rcvCell c 0 1) 0 ∗ semVal (rcvCell c 1 0) 0 ∗ semVal (rcvCell c 1 1) 0 ∗ semVal (rcvCell c 2 0) 0 ∗ semVal (rcvCell c 2 1) 0) :=
  bigSep_univ_eq_bigSepL [(0 : Fin 12), 1, 2, 3, 4, 5, 6, 7, 8, 9, 10, 11] (by decide) (by decide) _

theorem ownSems_all (c : Dev nD) :
    (Pipeline.ownSems0 (Ix := Unit) (Name := ℕ) (U := UU) (Lvl := ℕ) (Val := Elt F) (τ := τ) osem c : sProp 𝕄)
      ⊣⊢ iprop(all6 (fun s b => semVal (sndCell c s b) 0) ∗ all6 (fun s b => semVal (rcvCell c s b) 0)) := by
  rw [ownSems_eq]
  unfold all6
  constructor
  · iintro ⟨A00, A01, A10, A11, A20, A21, B00, B01, B10, B11, B20, B21⟩
    isplitl [A00 A01 A10 A11 A20 A21]
    · isplitl [A00]; · iexact A00
      isplitl [A10]; · iexact A10
      isplitl [A20]; · iexact A20
      isplitl [A01]; · iexact A01
      isplitl [A11]; · iexact A11
      iexact A21
    · isplitl [B00]; · iexact B00
      isplitl [B10]; · iexact B10
      isplitl [B20]; · iexact B20
      isplitl [B01]; · iexact B01
      isplitl [B11]; · iexact B11
      iexact B21
  · iintro ⟨⟨A00, A10, A20, A01, A11, A21⟩, ⟨B00, B10, B20, B01, B11, B21⟩⟩
    isplitl [A00]; · iexact A00
    isplitl [A01]; · iexact A01
    isplitl [A10]; · iexact A10
    isplitl [A11]; · iexact A11
    isplitl [A20]; · iexact A20
    isplitl [A21]; · iexact A21
    isplitl [B00]; · iexact B00
    isplitl [B01]; · iexact B01
    isplitl [B10]; · iexact B10
    isplitl [B11]; · iexact B11
    isplitl [B20]; · iexact B20
    iexact B21

section Open

variable (X : Dev nD → SrcC F) (K : GSem nD τ sig → ℕ)

/-- A step taken at each copy's cell in turn. -/
theorem all6_step (R : sProp 𝕄) [BI.Persistent R] {A B C D : Fin 3 → Fin 2 → sProp 𝕄}
    (h : ∀ s b, iprop(R ∗ A s b ∗ B s b) ⊢ |={Set.univ}=> iprop(C s b ∗ D s b)) :
    iprop(R ∗ all6 A ∗ all6 B) ⊢ (|={Set.univ}=> iprop(all6 C ∗ all6 D) : sProp 𝕄) := by
  unfold all6
  iintro ⟨#HR, ⟨A0, A1, A2, A3, A4, A5⟩, ⟨B0, B1, B2, B3, B4, B5⟩⟩
  imod (h 0 0) $$ [A0 B0] with ⟨C0, D0⟩
  · isplitr; · iexact HR
    isplitl [A0]; · iexact A0
    iexact B0
  imod (h 1 0) $$ [A1 B1] with ⟨C1, D1⟩
  · isplitr; · iexact HR
    isplitl [A1]; · iexact A1
    iexact B1
  imod (h 2 0) $$ [A2 B2] with ⟨C2, D2⟩
  · isplitr; · iexact HR
    isplitl [A2]; · iexact A2
    iexact B2
  imod (h 0 1) $$ [A3 B3] with ⟨C3, D3⟩
  · isplitr; · iexact HR
    isplitl [A3]; · iexact A3
    iexact B3
  imod (h 1 1) $$ [A4 B4] with ⟨C4, D4⟩
  · isplitr; · iexact HR
    isplitl [A4]; · iexact A4
    iexact B4
  imod (h 2 1) $$ [A5 B5] with ⟨C5, D5⟩
  · isplitr; · iexact HR
    isplitl [A5]; · iexact A5
    iexact B5
  imodintro
  isplitl [C0 C1 C2 C3 C4 C5]
  · isplitl [C0]; · iexact C0
    isplitl [C1]; · iexact C1
    isplitl [C2]; · iexact C2
    isplitl [C3]; · iexact C3
    isplitl [C4]; · iexact C4
    iexact C5
  · isplitl [D0]; · iexact D0
    isplitl [D1]; · iexact D1
    isplitl [D2]; · iexact D2
    isplitl [D3]; · iexact D3
    isplitl [D4]; · iexact D4
    iexact D5

theorem open_snd (s : Fin 3) (b : Fin 2) :
    iprop(invs X K ∗ openTok ER (sndCell c s b) ∗ semVal (sndCell c s b) 0)
      ⊢ (|={Set.univ}=> iprop(atPos ER (sndCell c s b) 0 ∅ 0 ∗ reached ER (sndCell c s b) 0) : sProp 𝕄) := by
  iintro ⟨#HI, Ho, Hv⟩
  imod (Rounds.cell_open ER (Rd X) (g := sndCell c s b) (Set.mem_univ (K (sndCell c s b)))) $$ [Ho Hv] with ⟨Ha, #Hr⟩
  · isplitr; · iapply (inv_snd X K c s b); iexact HI
    isplitl [Ho]; · iexact Ho
    iexact Hv
  imodintro
  isplitl [Ha]; · iexact Ha
  iexact Hr

theorem open_rcv (s : Fin 3) (b : Fin 2) :
    iprop(invs X K ∗ openTok ER (rcvCell c s b) ∗ semVal (rcvCell c s b) 0)
      ⊢ (|={Set.univ}=> iprop(atPos ER (rcvCell c s b) 0 ∅ 0 ∗ reached ER (rcvCell c s b) 0) : sProp 𝕄) := by
  iintro ⟨#HI, Ho, Hv⟩
  imod (Rounds.cell_open ER (Rd X) (g := rcvCell c s b) (Set.mem_univ (K (rcvCell c s b)))) $$ [Ho Hv] with ⟨Ha, #Hr⟩
  · isplitr; · iapply (inv_rcv X K c s b); iexact HI
    isplitl [Ho]; · iexact Ho
    iexact Hv
  imodintro
  isplitl [Ha]; · iexact Ha
  iexact Hr

end Open

def inside (c : Dev nD) : sProp 𝕄 := iprop((∃ K, opened (allCtx (ins m)) K c) ∗ creds c ∗ levAts L lv)
def zeroBar (c : Dev nD) : sProp 𝕄 := semVal (barCell c) 0

theorem open_all (c : Dev nD) :
    iprop(start (allCtx (ins m)) c ∗ Pipeline.ownSems0 osem c ∗ levAts L lv) ⊢ (|={Set.univ}=> inside m c : sProp 𝕄) := by
  unfold start ghost inside opened
  iintro ⟨⟨⟨%K, #HI, Hat, HoS, HoV, Hb, Ht⟩, HC⟩, Hsem, HL⟩
  ihave Hsem' := (ownSems_all c).1 $$ Hsem
  icases Hsem' with ⟨HsS, HsV⟩
  imod (all6_step (invs (allCtx (ins m)) K) (open_snd c (allCtx (ins m)) K)) $$ [HoS HsS] with ⟨HaS, HrS⟩
  · isplitr; · iexact HI
    isplitl [HoS]; · iexact HoS
    iexact HsS
  imod (all6_step (invs (allCtx (ins m)) K) (open_rcv c (allCtx (ins m)) K)) $$ [HoV HsV] with ⟨HaV, HrV⟩
  · isplitr; · iexact HI
    isplitl [HoV]; · iexact HoV
    iexact HsV
  imodintro
  isplitr [HC HL]
  · iexists K
    isplitr; · iexact HI
    isplitl [Hat]; · iexact Hat
    isplitl [HaS]; · iexact HaS
    isplitl [HaV]; · iexact HaV
    isplitl [HrS]; · iexact HrS
    isplitl [HrV]; · iexact HrV
    isplitl [Hb]; · iexact Hb
    iexact Ht
  isplitl [HC]; · iexact HC
  iexact HL

/-! ## The region's record -/

theorem cellOf_inj' : Function.Injective (Pipeline.cellOf (nD := nD) (τ := τ) (Pipeline.pin (pcfgs (F := F)) adm)) := cellOf_inj

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers the kernel never sees. -/
def rest : Finset (DevRef τ sig) := Pipeline.ucRefs τ sig \ Pipeline.arrRefs (τ := τ) spec0

theorem arr_sub : Pipeline.arrRefs (τ := τ) spec0 ⊆ Pipeline.ucRefs τ sig :=
  Pipeline.arrRefs_sub_ucRefs _ (by decide)

theorem v12_mem : Proc.devRef (τ := τ) .tc main_v12 ∈ Pipeline.arrRefs (τ := τ) spec0 :=
  Finset.mem_map.mpr ⟨main_v12, Finset.mem_image.mpr ⟨(5 : Fin 6), Finset.mem_univ _, rfl⟩, rfl⟩

theorem rest_same (c : Dev nD) : ∀ b ∈ rest \ ∅, V2 m (outs m) c b = V1 m c b := fun b hb => by
  rw [Finset.sdiff_empty] at hb
  refine Function.update_of_ne (fun h => ?_) _ _
  subst h
  exact (Finset.mem_sdiff.mp hb).2 v12_mem

theorem levels_cut (c : Dev nD) (t : Fin (cfg0.N + 1)) (g : GSem nD τ sig) (i : Unit) (h : 0 < (dat m c).owed t g i) : i ∈ L g ∧ 0 < lv g i := by
  have e : (dat m c).owed t = if t.val = 0 then O₀ c else 0 := rfl
  rw [e] at h
  split at h
  · obtain ⟨p, hp, rfl⟩ := owe_pos h
    rcases List.mem_append.mp hp with hp | hp
    · simp only [barDue, List.mem_cons, List.not_mem_nil, or_false] at hp
      rcases hp with rfl | rfl | rfl <;> exact ⟨by rw [L_tc]; exact Finset.mem_singleton_self _, Nat.one_pos⟩
    · obtain ⟨e, s, b, rfl⟩ := mem_rcvDue hp
      exact ⟨by rw [L_tc]; exact Finset.mem_singleton_self _, by dsimp only [lv]; rw [if_pos (rcv_hi s b)]; decide⟩
  · exact absurd h (Nat.lt_irrefl 0)

theorem enter (c : Dev nD) :
    iprop(Pipeline.scopedRest (Pipeline.pin (pcfgs (F := F)) adm 0).spec c ∗ (∃ r, prngReg c r) ∗ StableHlo.held (c.tc : Thread nD τ) ∅ (V1 m c) ∗ inside m c)
      ⊢ (pdats m 0 c).Φ 0 := by
  show _ ⊢ (if (0 : Fin (cfg0.N + 1)).val = 0 then before' m c else after' c)
  rw [show (if (0 : Fin (cfg0.N + 1)).val = 0 then before' m c else after' c) = before' m c from if_pos rfl]
  refine (show _ ⊢ iprop(Pipeline.scopedRest spec0 c ∗ (∃ r, prngReg c r) ∗ inside m c) from ?_).trans ?_
  · iintro ⟨H1, H2, -, H3⟩
    isplitl [H1]; · iexact H1
    isplitl [H2]; · iexact H2
    iexact H3
  rw [scopedRest0_eq]
  unfold before' inside scratch0Any scratch1Any
  iintro ⟨⟨H0, H1⟩, Hp, HK, HC, HL⟩
  isplitl [HK]; · iexact HK
  isplitl [HC]; · iexact HC
  isplitl [HL]; · iexact HL
  isplitl [H0]; · iexact H0
  isplitl [H1]; · iexact H1
  iexact Hp

theorem leave (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (V2 m (outs m) c)
        ∗ Pipeline.ownSems0 osem c ∗ zeroBar c) := by
  show (if (Fin.last cfg0.N).val = 0 then before' m c else after' c) ⊢ _
  rw [if_neg (by decide)]
  refine (show _ ⊢ iprop(Pipeline.scopedRest spec0 c ∗ (∃ r, prngReg c r) ∗ Pipeline.ownSems0 osem c ∗ zeroBar c) from ?_).trans ?_
  · rw [scopedRest0_eq]
    unfold after' scratch0Any scratch1Any spent zeroBar
    iintro ⟨⟨Hb, HS, HR⟩, H0, H1, Hp⟩
    isplitl [H0 H1]
    · isplitl [H0]; · iexact H0
      iexact H1
    isplitl [Hp]; · iexact Hp
    isplitl [HS HR]
    · iapply (ownSems_all c).2
      isplitl [HS]; · iexact HS
      iexact HR
    iexact Hb
  · iintro ⟨H1, H2, H3, H4⟩
    isplitl [H1]; · iexact H1
    isplitl [H2]; · iexact H2
    isplitr
    · unfold StableHlo.held
      rw [bigSep_empty]
      iempintro
    isplitl [H3]; · iexact H3
    iexact H4

theorem arr_in (c : Dev nD) (w : Fin 6) : (dat m c).arrAt w 0 = V1 m c (Proc.devRef .tc (Pipeline.arrRef spec0 w)) := by
  fin_cases w <;> rfl

theorem arr_out (c : Dev nD) (w : Fin 6) : (dat m c).arrAt w cfg0.N = V2 m (outs m) c (Proc.devRef .tc (Pipeline.arrRef spec0 w)) := by
  have h (r : Ref sig .tc) (hr : r ∉ ([main_v12] : List (Ref sig .tc))) : V1 m c r = V2 m (outs m) c r := (V2_of m (outs m) c r hr).symm
  match w with
  | 0 => exact ((dat m c).arrAt_in 0 rfl _).trans (h main_arg0 (by decide))
  | 1 => exact ((dat m c).arrAt_in 1 rfl _).trans (h main_v9 (by decide))
  | 2 => exact ((dat m c).arrAt_in 2 rfl _).trans (h main_v10 (by decide))
  | 3 => exact ((dat m c).arrAt_in 3 rfl _).trans (h main_v11 (by decide))
  | 4 => exact ((dat m c).arrAt_in 4 rfl _).trans (h main_arg4 (by decide))
  | 5 =>
    refine ((final5 m c).trans (outs_v12 m 2 c).symm).trans ?_
    show outs m 2 main_v12 c = Function.update (V1 m c) (Proc.devRef .tc main_v12) (outs m 2 main_v12 c) (Proc.devRef .tc main_v12)
    rw [Function.update_self]

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kit rfl (fun c => (body m c).loose)
    (fun _ => 0) O₀ (fun c => (zero_add _).symm) (owed_end m) (fun _ => rfl) (fun c w => (dat m c).share_full (fun _ => rfl) w)
    (V1 m) (V2 m (outs m)) (rest_same m)
    (start (allCtx (ins m))) zeroBar (inside m) zeroBar (open_all m) (enter m) (leave m)
    (fun c => by iintro H; imodintro; iexact H)
    (fun _ => 0)
    ⟨fun c w s => by rw [L_tc]; exact Finset.mem_singleton_self _,
      fun c w s => by fin_cases w <;> fin_cases s <;> exact Nat.le_refl 0,
      fun c t g i h => levels_cut m c t g i h⟩
    (fun _ => iprop(emp))
    (arr_in m) (arr_out m)

end Cert.KernelIdeal.Run

end
-- ==== Proof.KernelIdeal.Launch.lean ====
/- The launch: the cells' invariants made, the tokens and the credit dealt to the devices that use them,
   and the run of the whole program: what every buffer named in the claims holds at the end. -/
module

public import proofs.«01_k».proof.Proof.KernelIdeal.Region

@[expose] public section

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch -/

def barEmb : Dev nD ↪ GSem nD τ sig := ⟨fun c => barCell c, fun _ _ h => congrArg (fun g : GSem nD τ sig => g.1.1) h⟩
theorem osem_inj : Function.Injective osem := by decide
def ownEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

abbrev bars : Finset (GSem nD τ sig) := Finset.univ.map barEmb
abbrev owns' : Finset (GSem nD τ sig) := Finset.univ.map ownEmb

theorem cells_disj : Disjoint (bars : Finset (GSem nD τ sig)) owns' := by
  rw [Finset.disjoint_left]
  intro g h₁ h₂
  obtain ⟨c, -, rfl⟩ := Finset.mem_map.mp h₁
  obtain ⟨ck, -, h⟩ := Finset.mem_map.mp h₂
  exact absurd (congrArg Prod.snd h) (by show osem ck.2 ≠ .reg barS; unfold osem; exact fun h => by cases h)

/-- The fifteen duties device `c` pays, at the cells they are paid to. -/
def payCell (c : Dev nD) : Fin 15 → GSem nD τ sig × ℕ × Fin 3
  | 0 => (barCell (nxt c 0), 0, (0 : Fin 3).rev) | 1 => (barCell (nxt c 1), 0, (1 : Fin 3).rev) | 2 => (barCell (nxt c 2), 0, (2 : Fin 3).rev)
  | 3 => (rcvCell (nxt c 0) 0 0, 0, 0) | 4 => (rcvCell (nxt c 1) 1 0, 0, 0) | 5 => (rcvCell (nxt c 2) 2 0, 0, 0)
  | 6 => (rcvCell (nxt c 0) 0 1, 0, 0) | 7 => (rcvCell (nxt c 1) 1 1, 0, 0) | 8 => (rcvCell (nxt c 2) 2 1, 0, 0)
  | 9 => (sndCell c 0 0, 0, 0) | 10 => (sndCell c 1 0, 0, 0) | 11 => (sndCell c 2 0, 0, 0)
  | 12 => (sndCell c 0 1, 0, 0) | 13 => (sndCell c 1 1, 0, 0) | 14 => (sndCell c 2 1, 0, 0)

theorem payCell_inj : Function.Injective (fun ck : Dev nD × Fin 15 => payCell ck.1 ck.2) := by decide +kernel

def launchToks : Finset (GSem nD τ sig × ℕ × Fin 3) := Finset.univ.map ⟨fun ck : Dev nD × Fin 15 => payCell ck.1 ck.2, payCell_inj⟩

theorem toks_dealt : bigSep launchToks (fun x => (dutyTok ER x.1 x.2.1 x.2.2 : sProp 𝕄)) ⊢ bigSep Finset.univ fun c : Dev nD => (toks c : sProp 𝕄) := by
  unfold launchToks
  rw [bigSep_map, bigSep_univ_prod]
  refine bigSep_mono fun c _ => ?_
  rw [bigSep_univ_eq_bigSepL [(0 : Fin 15), 1, 2, 3, 4, 5, 6, 7, 8, 9, 10, 11, 12, 13, 14] (by decide) (by decide)]
  show iprop(dutyTok ER (barCell (nxt c 0)) 0 (0 : Fin 3).rev ∗ dutyTok ER (barCell (nxt c 1)) 0 (1 : Fin 3).rev ∗ dutyTok ER (barCell (nxt c 2)) 0 (2 : Fin 3).rev
    ∗ dutyTok ER (rcvCell (nxt c 0) 0 0) 0 0 ∗ dutyTok ER (rcvCell (nxt c 1) 1 0) 0 0 ∗ dutyTok ER (rcvCell (nxt c 2) 2 0) 0 0
    ∗ dutyTok ER (rcvCell (nxt c 0) 0 1) 0 0 ∗ dutyTok ER (rcvCell (nxt c 1) 1 1) 0 0 ∗ dutyTok ER (rcvCell (nxt c 2) 2 1) 0 0
    ∗ dutyTok ER (sndCell c 0 0) 0 0 ∗ dutyTok ER (sndCell c 1 0) 0 0 ∗ dutyTok ER (sndCell c 2 0) 0 0
    ∗ dutyTok ER (sndCell c 0 1) 0 0 ∗ dutyTok ER (sndCell c 1 1) 0 0 ∗ dutyTok ER (sndCell c 2 1) 0 0) ⊢ _
  unfold toks all3 all6
  iintro ⟨B0, B1, B2, R0, R1, R2, R3, R4, R5, S0, S1, S2, S3, S4, S5⟩
  isplitl [B0 B1 B2]
  · isplitl [B0]; · iexact B0
    isplitl [B1]; · iexact B1
    iexact B2
  isplitl [R0 R1 R2 R3 R4 R5]
  · isplitl [R0]; · iexact R0
    isplitl [R1]; · iexact R1
    isplitl [R2]; · iexact R2
    isplitl [R3]; · iexact R3
    isplitl [R4]; · iexact R4
    iexact R5
  · isplitl [S0]; · iexact S0
    isplitl [S1]; · iexact S1
    isplitl [S2]; · iexact S2
    isplitl [S3]; · iexact S3
    isplitl [S4]; · iexact S4
    iexact S5

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf bars owns' launchToks)

/-- The protocol's element, kept whole by the first device until every device has started. -/
def G (c : Dev nD) : sProp 𝕄 := if c = 0 then BI.own (ER (launchOf bars owns' launchToks)) else iprop(emp)
theorem G_all : bigSep Finset.univ (G (F := F)) = BI.own (ER (launchOf bars owns' launchToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

section Records

variable (X : Dev nD → SrcC F) (κ : GSem nD τ sig → ℕ)

/-- What every device may look up: each cell's invariant, and that each barrier cell is at its first round. -/
def records : sProp 𝕄 :=
  iprop((bigSep (bars ∪ owns') fun g => cellInv ER (Rd X) (κ g) g) ∗ bigSep bars fun g => reached ER g 0)
instance records_persistent : BI.Persistent (records X κ) := by unfold records; infer_instance

theorem kcell_mem (ck : Dev nD × Fin 13) : kcell ck ∈ (bars ∪ owns' : Finset (GSem nD τ sig)) := by
  obtain ⟨c, k⟩ := ck
  refine Fin.cases ?_ (fun j => ?_) k
  · exact Finset.mem_union_left _ (Finset.mem_map_of_mem barEmb (Finset.mem_univ c))
  · refine Finset.mem_union_right _ (Finset.mem_map.mpr ⟨(c, j), Finset.mem_univ _, Prod.ext rfl ?_⟩)
    show osem j = csem j.succ
    revert j; decide

theorem records_invs : records X κ ⊢ invs X κ := by
  unfold invs
  refine bigSep_intro_persistent fun ck _ => ?_
  have h : (bigSep (bars ∪ owns') fun g => (cellInv ER (Rd X) (κ g) g : sProp 𝕄)) ⊢ cellInv ER (Rd X) (κ (kcell ck)) (kcell ck) :=
    bigSep_elim (kcell_mem ck)
  unfold records
  iintro ⟨#H, -⟩
  iapply h; iexact H

theorem records_reached (c : Dev nD) : records X κ ⊢ all3 (fun s => reached ER (barCell (nxt c s)) 0) := by
  have h (s : Fin 3) : (bigSep bars fun g => (reached ER g 0 : sProp 𝕄)) ⊢ reached ER (barCell (nxt c s)) 0 :=
    bigSep_elim (Finset.mem_map_of_mem barEmb (Finset.mem_univ (nxt c s)))
  unfold records all3
  iintro ⟨-, #H⟩
  isplitr; · iapply (h 0); iexact H
  isplitr; · iapply (h 1); iexact H
  iapply (h 2); iexact H

/-- What goes to device `c` alone. -/
def share' (c : Dev nD) : sProp 𝕄 :=
  iprop(atPos ER (barCell c) 0 ∅ 0 ∗ (all6 (fun s b => openTok ER (sndCell c s b)) ∗ all6 (fun s b => openTok ER (rcvCell c s b))) ∗ toks c)

theorem ghost_of (c : Dev nD) : iprop(records X κ ∗ share' c) ⊢ iprop(∃ K, ghost X K c) := by
  unfold share' ghost
  iintro ⟨#HR, Ha, ⟨HS, HV⟩, Ht⟩
  iexists κ
  isplitr; · iapply (records_invs X κ); iexact HR
  isplitl [Ha]; · iexact Ha
  isplitl [HS]; · iexact HS
  isplitl [HV]; · iexact HV
  isplitr; · iapply (records_reached X κ c); iexact HR
  iexact Ht

end Records

/-! ## The launch credit -/

theorem owe_at (l : List (GSem nD τ sig × ℕ)) (g : GSem nD τ sig) :
    owe l g () = (l.map fun p => if p.1 = g then p.2 else 0).sum := by
  induction l with
  | nil => rfl
  | cons p l ih =>
    show (owe l + tallyAt p.1 () p.2) g () = _
    rw [Pi.add_apply, Finsupp.add_apply, tallyAt_apply, ih, List.map_cons, List.sum_cons, Nat.add_comm]
    congr 1
    by_cases h : p.1 = g
    · rw [if_pos h, if_pos ⟨h.symm, rfl⟩]
    · rw [if_neg h, if_neg fun h' => h h'.1.symm]

theorem bar_at (d c : Dev nD) (s : Fin 3) : barCell (nxt d s) = barCell c ↔ d = prv c s := by
  constructor
  · intro h
    have h' : nxt d s = c := congrArg (fun g : GSem nD τ sig => g.1.1) h
    rw [← h', prv_nxt]
  · rintro rfl; rw [nxt_prv]
theorem rcv_bar (e c : Dev nD) (s : Fin 3) (b : Fin 2) : rcvCell e s b ≠ barCell c := fun h => by
  have h' := congrArg Prod.snd h; cases h'
theorem rcv_at (d c : Dev nD) (s s' : Fin 3) (b b' : Fin 2) : rcvCell (nxt d s) s b = rcvCell c s' b' ↔ (s = s' ∧ b = b') ∧ d = prv c s' := by
  constructor
  · intro h
    have h1 : nxt d s = c := congrArg (fun g : GSem nD τ sig => g.1.1) h
    have h2 : rcvD s b = rcvD s' b' := SemLoc.dma.inj (congrArg Prod.snd h)
    have hs : s = s' := (slotOf_rcv s b).symm.trans ((congrArg slotOf h2).trans (slotOf_rcv s' b'))
    have hb : b = b' := (halfOf_rcv s b).symm.trans ((congrArg halfOf h2).trans (halfOf_rcv s' b'))
    subst hs
    exact ⟨⟨rfl, hb⟩, by rw [← h1, prv_nxt]⟩
  · rintro ⟨⟨rfl, rfl⟩, rfl⟩; rw [nxt_prv]

theorem owed_bar (d c : Dev nD) :
    O₀ d (barCell c) () = (if d = prv c 0 then 1 else 0) + ((if d = prv c 1 then 1 else 0) + (if d = prv c 2 then 1 else 0)) := by
  unfold O₀
  rw [owe_at]
  simp only [barDue, rcvDue, List.cons_append, List.nil_append, List.map_cons, List.map_nil, List.sum_cons, List.sum_nil, bar_at, rcv_bar, if_false, Nat.add_zero]

theorem owed_rcv (d c : Dev nD) (s : Fin 3) (b : Fin 2) : O₀ d (rcvCell c s b) () = if d = prv c s then N else 0 := by
  have hb (e : Dev nD) : barCell e ≠ rcvCell c s b := fun h => rcv_bar c e s b h.symm
  unfold O₀
  rw [owe_at]
  simp only [barDue, rcvDue, List.cons_append, List.nil_append, List.map_cons, List.map_nil, List.sum_cons, List.sum_nil, rcv_at, hb, if_false, Nat.add_zero, Nat.zero_add]
  have hn (n : ℕ) (p : Prop) [Decidable p] : ∀ (s : Fin 3) (b : Fin 2),
      (if (0 = s ∧ 0 = b) ∧ p then n else 0) + ((if (1 = s ∧ 0 = b) ∧ p then n else 0) + ((if (2 = s ∧ 0 = b) ∧ p then n else 0)
        + ((if (0 = s ∧ 1 = b) ∧ p then n else 0) + ((if (1 = s ∧ 1 = b) ∧ p then n else 0) + (if (2 = s ∧ 1 = b) ∧ p then n else 0))))) = if p then n else 0 := by
    intro s b
    fin_cases s <;> fin_cases b <;> simp
  exact hn N _ s b

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, Finset.sum_congr rfl fun d _ => owed_bar d c, Finset.sum_add_distrib, Finset.sum_add_distrib]
  have h (e : Dev nD) : (∑ d : Dev nD, if d = e then 1 else 0) = 1 := by
    rw [Finset.sum_ite_eq' Finset.univ e fun _ => 1, if_pos (Finset.mem_univ _)]
  rw [h, h, h]; rfl

theorem launch_rcv (c : Dev nD) (s : Fin 3) (b : Fin 2) :
    tallyOn (rcvCell c s b) (launchCredit (Pipeline.owing O₀) 0 (rcvCell c s b)) = (tallyAt (rcvCell c s b) () N : CellTallies nD τ sig Unit) := by
  unfold tallyAt
  refine congrArg _ (Finsupp.ext fun u => ?_)
  cases u
  rw [Pipeline.launchCredit_owing, Finsupp.single_eq_same, Finset.sum_congr rfl fun d _ => owed_rcv d c s b,
    Finset.sum_ite_eq' Finset.univ (prv c s) fun _ => N, if_pos (Finset.mem_univ _)]

/-- The seven cells of a device that carry launch credit. -/
def credSem : Fin 7 → SemLoc sig
  | 0 => .reg barS | 1 => .dma (rcvD 0 0) | 2 => .dma (rcvD 1 0) | 3 => .dma (rcvD 2 0) | 4 => .dma (rcvD 0 1) | 5 => .dma (rcvD 1 1) | 6 => .dma (rcvD 2 1)
theorem credSem_inj : Function.Injective credSem := by decide

theorem creds_dealt (c : Dev nD) : (Pipeline.launchCred O₀ c : sProp 𝕄) ⊢ creds c := by
  unfold Pipeline.launchCred
  refine (bigSep_subset (Finset.subset_univ (Finset.univ.map ⟨credSem, credSem_inj⟩))).trans ?_
  rw [bigSep_map, bigSep_univ_eq_bigSepL [(0 : Fin 7), 1, 2, 3, 4, 5, 6] (by decide) (by decide)]
  show iprop(cred (tallyOn (barCell c) (launchCredit (Pipeline.owing O₀) 0 (barCell c)))
    ∗ cred (tallyOn (rcvCell c 0 0) (launchCredit (Pipeline.owing O₀) 0 (rcvCell c 0 0)))
    ∗ cred (tallyOn (rcvCell c 1 0) (launchCredit (Pipeline.owing O₀) 0 (rcvCell c 1 0)))
    ∗ cred (tallyOn (rcvCell c 2 0) (launchCredit (Pipeline.owing O₀) 0 (rcvCell c 2 0)))
    ∗ cred (tallyOn (rcvCell c 0 1) (launchCredit (Pipeline.owing O₀) 0 (rcvCell c 0 1)))
    ∗ cred (tallyOn (rcvCell c 1 1) (launchCredit (Pipeline.owing O₀) 0 (rcvCell c 1 1)))
    ∗ cred (tallyOn (rcvCell c 2 1) (launchCredit (Pipeline.owing O₀) 0 (rcvCell c 2 1)))) ⊢ _
  simp only [launch_bar, launch_rcv]
  unfold creds all6
  exact Entails.of_eq rfl

/-! ## The launch, on every device at once -/

/-- What rides beside the buffers up to the kernel, and after it. -/
def E (j : Fin 2) (c : Dev nD) : sProp 𝕄 := match j with
  | 0 => iprop(start (allCtx (ins m)) c ∗ (∃ r, prngReg c r) ∗ ∃ W, owes (c : Thread nD τ) (O₀ c) W)
  | 1 => iprop(zeroBar c ∗ ∃ W, owes (c : Thread nD τ) (0 : CellTallies nD τ sig Unit) W)

def others (c : Dev nD) : sProp 𝕄 := iprop(creds c ∗ owes (c : Thread nD τ) (O₀ c) ∅ ∗ prngReg c (ρ c))

theorem E_of (κ : GSem nD τ sig → ℕ) (c : Dev nD) : iprop(records (allCtx (ins m)) κ ∗ share' c ∗ others ρ c) ⊢ E m 0 c := by
  unfold E others start
  dsimp only
  iintro ⟨#HR, Hs, HC, HO, Hp⟩
  isplitl [Hs HC]
  · isplitl [Hs]
    · iapply (ghost_of (allCtx (ins m)) κ c)
      isplitr; · iexact HR
      iexact Hs
    iexact HC
  isplitl [Hp]
  · iexists (ρ c); iexact Hp
  iexists ∅; iexact HO

theorem barSems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem init :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E m 0) : sProp 𝕄) := by
  have hcore : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(others ρ c ∗ (semVal (barCell c) 0 ∗ G c)) : sProp 𝕄) := bigSep_mono fun c _ => by
    rw [barSems]
    unfold others
    show iprop(semVal (barCell c) 0 ∗ owes (c : Thread nD τ) (O₀ c) ∅ ∗ Pipeline.launchCred O₀ c ∗ prngReg c (ρ c) ∗ G c) ⊢ _
    iintro ⟨Hv, HO, HC, Hp, HG⟩
    isplitl [HC HO Hp]
    · isplitl [HC]; · iapply (creds_dealt c); iexact HC
      isplitl [HO]; · iexact HO
      iexact Hp
    isplitl [Hv]; · iexact Hv
    iexact HG
  have hv : bigSep Finset.univ (fun c : Dev nD => (semVal (barCell c) 0 : sProp 𝕄)) ⊢ bigSep bars (fun g => (semVal g 0 : sProp 𝕄)) :=
    Entails.of_eq (bigSep_map (s := Finset.univ) barEmb (Φ := fun g : GSem nD τ sig => (semVal g 0 : sProp 𝕄))).symm
  have hat : bigSep bars (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep owns' (fun g => (openTok ER g : sProp 𝕄))
      ⊢ bigSep Finset.univ (fun c : Dev nD => iprop(all6 (fun s b => openTok ER (sndCell c s b)) ∗ all6 (fun s b => openTok ER (rcvCell c s b)))) := by
    rw [bigSep_map, bigSep_univ_prod]
    refine bigSep_mono fun c _ => ?_
    rw [bigSep_univ_eq_bigSepL [(0 : Fin 12), 1, 2, 3, 4, 5, 6, 7, 8, 9, 10, 11] (by decide) (by decide)]
    show iprop(openTok ER (sndCell c 0 0) ∗ openTok ER (sndCell c 0 1) ∗ openTok ER (sndCell c 1 0) ∗ openTok ER (sndCell c 1 1) ∗ openTok ER (sndCell c 2 0) ∗ openTok ER (sndCell c 2 1)
      ∗ openTok ER (rcvCell c 0 0) ∗ openTok ER (rcvCell c 0 1) ∗ openTok ER (rcvCell c 1 0) ∗ openTok ER (rcvCell c 1 1) ∗ openTok ER (rcvCell c 2 0) ∗ openTok ER (rcvCell c 2 1)) ⊢ _
    unfold all6
    iintro ⟨A00, A01, A10, A11, A20, A21, B00, B01, B10, B11, B20, B21⟩
    isplitl [A00 A01 A10 A11 A20 A21]
    · isplitl [A00]; · iexact A00
      isplitl [A10]; · iexact A10
      isplitl [A20]; · iexact A20
      isplitl [A01]; · iexact A01
      isplitl [A11]; · iexact A11
      iexact A21
    · isplitl [B00]; · iexact B00
      isplitl [B10]; · iexact B10
      isplitl [B20]; · iexact B20
      isplitl [B01]; · iexact B01
      isplitl [B11]; · iexact B11
      iexact B21
  iintro ⟨H, -⟩
  ihave H' := hcore $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (Entails.of_eq (G_all (F := F))) $$ HG
  imod (Rounds.fund_launch ER (Rd (allCtx (ins m))) cells_disj (fun g _ h => h) launchToks) $$ [Hv Hu] with ⟨%κ, -, #Hinv, #Hr, Hat, Hopen, Htok⟩
  · isplitl [Hv]
    · iapply hv $$ Hv
    · iexact Hu
  imodintro
  iapply (bigSep_with_persistent (R := records (allCtx (ins m)) κ) (Φ := fun c => iprop(share' c ∗ others ρ c)) fun c _ => E_of m ρ κ c)
  isplitr
  · unfold records
    isplitr; · iexact Hinv
    iexact Hr
  iapply (Entails.of_eq (bigSep_sep' _ _ _).symm)
  isplitr [HB]
  · unfold share'
    iapply (Entails.of_eq (bigSep_sep' _ _ _).symm); isplitl [Hat]; · iapply hat $$ Hat
    iapply (Entails.of_eq (bigSep_sep' _ _ _).symm); isplitl [Hopen]; · iapply hop $$ Hopen
    iapply (toks_dealt (F := F)) $$ Htok
  · iexact HB

/-! ## The region between the host's thread states -/

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ start (allCtx (ins m)) c ∗ ∃ Wd, owes (c : Thread nD τ) (0 + O₀ c) Wd)
  rw [zero_add, StableHlo.held_sub_split (c : Thread nD τ) arr_sub (V1 m c)]
  unfold E rest
  dsimp only
  iintro ⟨⟨Ha, Hr⟩, HS, Hp, HO⟩
  isplitl [Ha]; · iexact Ha
  isplitl [Hp]; · iexact Hp
  isplitl [Hr]
  · isplitl [Hr]; · iexact Hr
    iempintro
  isplitl [HS]; · iexact HS
  iexact HO

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) rest (V2 m (outs m) c) ∗ emp) ∗ zeroBar c ∗ ∃ Wd, owes (c : Thread nD τ) (0 : CellTallies nD τ sig Unit) Wd) ⊢ _
  rw [StableHlo.held_sub_split (c : Thread nD τ) arr_sub (V2 m (outs m) c)]
  unfold E rest
  dsimp only
  iintro ⟨Ha, -, ⟨Hr, -⟩, HZ, HO⟩
  isplitl [Ha Hr]
  · isplitl [Ha]; · iexact Ha
    iexact Hr
  isplitl [HZ]; · iexact HZ
  iexact HO

/-! ## The run -/

theorem V2_out (c : Dev nD) : V2 m (outs m) c main_v12 = out (ins m) c := by
  show Function.update (V1 m c) (Proc.devRef .tc main_v12) (outs m 2 main_v12 c) (Proc.devRef .tc main_v12) = _
  rw [Function.update_self, outs_v12]

/-- What a device's memory holds at the end: the arguments as launched, the result the attention's output. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v12) = out (ins m) c

theorem unscoped_bar : ∀ sm : SemLoc sig, sm.isScoped .tc = false → sm = .reg barS := by decide

set_option backward.isDefEq.respectTransparency.types false in
/-- Every fair run of the program from zero counters ends, with the arguments as launched, the result array at the
    attention's output and every counter at zero. -/
theorem run_main : θ_run defs (onTc (τ := τ) (main (F := F))) ⟨m, fun _ => 0, ρ⟩
    (fun r => (∀ c : Dev nD, Ends m c r.2) ∧ r.2.sem = fun _ => 0) := by
  refine Pipeline.θ_run_regions_kit_dev_sems (pcfgs (F := F)) adm (pdats m) () cellOf_inj' EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (O₀ := O₀) (hL := L_of_ne) (G := G) (u₀ := u₀ (F := F)) (hu₀ := ?_)
    (T₀ := fun c => iprop(StableHlo.held (c : Thread nD τ) (Pipeline.ucRefs τ sig) (V0 m c) ∗ E m 0 c))
    (Tₙ := fun c => iprop(StableHlo.held (c : Thread nD τ) (Pipeline.ucRefs τ sig) (V2 m (outs m) c) ∗ zeroBar c))
    (hch := fun c => ⟨.rfl, reg_pre m c, (reg_post m c).trans ?_⟩)
    (hinit := ?_) (QY := fun c s => Ends m c s ∧ s.sem (barCell c) = 0)
    (hfin := fun c s' => ?_)
    (hQ := fun s h hs => ⟨fun c => (h c).1, sem_eq_zero hs fun c sm hsm => by
      obtain rfl := unscoped_bar sm hsm
      exact (h c).2⟩)
  · unfold u₀
    iintro Hu
    ihave H := (ownU_pair _ _) $$ Hu
    icases H with ⟨HP, HX⟩
    imodintro
    isplitl [HP]; · iexact HP
    rw [G_all]; iexact HX
  · show iprop(StableHlo.held (c : Thread nD τ) (Pipeline.ucRefs τ sig) (V2 m (outs m) c)
        ∗ (zeroBar c ∗ ∃ W, owes (c : Thread nD τ) (0 : CellTallies nD τ sig Unit) W)) ⊢ _
    iintro ⟨Hh, Hz, HO⟩
    isplitr [HO]
    · isplitl [Hh]; · iexact Hh
      iexact Hz
    iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by
        rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    rw [bigSep_sep']
    isplitl [Hh]; · iexact Hh
    iexact HE
  · unfold StableHlo.held zeroBar
    iintro ⟨⟨Hh, Hz⟩, HSI⟩
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    icombine HSI Hz gives %hz
    imodintro
    isplitr
    · ipureintro
      refine ⟨⟨⟨?_, ?_, ?_, ?_, ?_⟩, ?_⟩, by simpa using hz⟩
      · exact (h (Proc.devRef .tc main_arg0) (Finset.mem_filter.mpr ⟨StableHlo.devRef_mem_tcRefs main_arg0, by decide⟩)).trans (V2_main_arg0 m (outs m) c)
      · exact (h (Proc.devRef .tc main_arg1) (Finset.mem_filter.mpr ⟨StableHlo.devRef_mem_tcRefs main_arg1, by decide⟩)).trans (V2_main_arg1 m (outs m) c)
      · exact (h (Proc.devRef .tc main_arg2) (Finset.mem_filter.mpr ⟨StableHlo.devRef_mem_tcRefs main_arg2, by decide⟩)).trans (V2_main_arg2 m (outs m) c)
      · exact (h (Proc.devRef .tc main_arg3) (Finset.mem_filter.mpr ⟨StableHlo.devRef_mem_tcRefs main_arg3, by decide⟩)).trans (V2_main_arg3 m (outs m) c)
      · exact (h (Proc.devRef .tc main_arg4) (Finset.mem_filter.mpr ⟨StableHlo.devRef_mem_tcRefs main_arg4, by decide⟩)).trans (V2_main_arg4 m (outs m) c)
      · exact (h (Proc.devRef .tc main_v12) (Finset.mem_filter.mpr ⟨StableHlo.devRef_mem_tcRefs main_v12, by decide⟩)).trans (V2_out m c)
    · iexact HSI

end Cert.KernelIdeal.Run

end
-- ==== Proof.KernelIdeal.Heads.lean ====
/- One group of query rows against the keys it uses, four heads at a time, read at an index. -/
module

public import proofs.«01_k».proof.Proof.KernelIdeal.Contents
public import Idealize.ShloMosaic.Lib.Pointwise
public import Idealize.ShloMosaic.Lib.IdealHost

@[expose] public section

noncomputable section

namespace Cert.KernelIdeal.Run

open Cert.KernelIdeal Cert.KernelIdeal.Gen
open Idealize.ShloMosaic Idealize.ShloMosaic.TcCoe

/-- The query rows, a copy for each head with the other heads' columns at zero. -/
def spread (mk : FVec Ideal S4x1x256 .bf16) (q : FVec Ideal S128x256 .bf16) : FVec Ideal S512x256 .bf16 :=
  shapeCast S512x256 (mulf (broadcastTo S4x128x256 (shapeCast S1x128x256 q shapeCasts_S128x256_S1x128x256) broadcasts_S1x128x256_S4x128x256)
    (broadcastTo S4x128x256 mk broadcasts_S4x1x256_S4x128x256)) shapeCasts_S4x128x256_S512x256

/-- A value for each row of each head, kept in that head's columns. -/
def kept (mk : FVec Ideal S4x1x256 .bf16) (w : FVec Ideal S512x256 .f32) : FVec Ideal S4x128x256 .f32 :=
  mulf (shapeCast S4x128x256 w shapeCasts_S512x256_S4x128x256)
    (broadcastTo S4x128x256 (extf .f32 mk bitsLt_bf16_f32) broadcasts_S4x1x256_S4x128x256)

/-- The sum over the four heads. -/
def headSum (w : FVec Ideal S4x128x256 .f32) : FVec Ideal S128x256 .f32 :=
  multiReduction .add [0] S128x256 w 0x00000000#32 reduces_S4x128x256_S128x256 (.inl rfl) rfl

def exps192 (q : FVec Ideal S512x256 .bf16) (k : FVec Ideal S192x256 .bf16) : FVec Ideal S512x192 .f32 :=
  exp (matmul dot_S512x256_S192x256_S512x192_1_1_0_0_n_n none q k (constant S512x192 .f32 0x00000000#32))

def mean192 (e : FVec Ideal S512x192 .f32) (v : FVec Ideal S192x256 .bf16) : FVec Ideal S512x256 .f32 :=
  mulf (matmul dot_S512x192_S192x256_S512x256_1_0_0_1_n_n none (truncf .bf16 e bitsLt_bf16_f32) v (constant S512x256 .f32 0x00000000#32))
    (broadcastTo S512x256 (divf (broadcast S512x1 (Scalar.ofBits .f32 0x3F800000#32))
      (shapeCast S512x1 (multiReduction .add [1] S512 e 0x00000000#32 reduces_S512x192_S512 (.inl rfl) rfl) shapeCasts_S512_S512x1)) broadcasts_S512x1_S512x256)

def exps128 (q : FVec Ideal S512x256 .bf16) (k : FVec Ideal S128x256 .bf16) : FVec Ideal S512x128 .f32 :=
  exp (matmul dot_S512x256_S128x256_S512x128_1_1_0_0_n_n none q k (constant S512x128 .f32 0x00000000#32))

def mean128 (e : FVec Ideal S512x128 .f32) (v : FVec Ideal S128x256 .bf16) : FVec Ideal S512x256 .f32 :=
  mulf (matmul dot_S512x128_S128x256_S512x256_1_0_0_1_n_n none (truncf .bf16 e bitsLt_bf16_f32) v (constant S512x256 .f32 0x00000000#32))
    (broadcastTo S512x256 (divf (broadcast S512x1 (Scalar.ofBits .f32 0x3F800000#32))
      (shapeCast S512x1 (multiReduction .add [1] S512 e 0x00000000#32 reduces_S512x128_S512 (.inl rfl) rfl) shapeCasts_S512_S512x1)) broadcasts_S512x1_S512x256)

theorem pay12_eq (q : FVec Ideal S512x256 .bf16) (k v : Vec Ideal S1x256x256 .bf16) :
    k0_pay12 q k0_pay2 k0_pay3 k0_pay4 0#32 k v
      = headSum (kept cmask (mean192 (exps192 (spread cmask (extractStridedSlice S128x256 ![64, 0] (k0_pay6 q) slices_S256x256_o64_0_S128x256))
          (extractStridedSlice S192x256 ![0, 0] (k0_pay7 k) slices_S256x256_o0_0_S192x256))
          (extractStridedSlice S192x256 ![0, 0] (k0_pay8 v) slices_S256x256_o0_0_S192x256))) := rfl

theorem pay21_eq (q : FVec Ideal S512x256 .bf16) (k v : Vec Ideal S1x256x256 .bf16) :
    k0_pay21 cmask (k0_pay18 k) (k0_pay19 v) (k0_pay20 q)
      = headSum (kept cmask (mean192 (exps192 (spread cmask (extractStridedSlice S128x256 ![64, 0] (k0_pay17 q) slices_S256x256_o64_0_S128x256))
          (extractStridedSlice S192x256 ![0, 0] (k0_pay18 k) slices_S256x256_o0_0_S192x256))
          (extractStridedSlice S192x256 ![0, 0] (k0_pay19 v) slices_S256x256_o0_0_S192x256))) := rfl

/-- The first and the last 64 rows. -/
def ends (w : FVec Ideal S256x256 .bf16) : FVec Ideal S128x256 .bf16 :=
  concatenate S128x256 0 [⟨S64x256, extractStridedSlice S64x256 ![0, 0] w slices_S256x256_o0_0_S64x256⟩,
    ⟨S64x256, extractStridedSlice S64x256 ![192, 0] w slices_S256x256_o192_0_S64x256⟩] concatenates_S64x256_S64x256_S128x256_d0

theorem pay13_eq (q : FVec Ideal S512x256 .bf16) (k v : Vec Ideal S1x256x256 .bf16) :
    k0_pay13 cmask (k0_pay9 q) (k0_pay10 k) (k0_pay11 v)
      = headSum (kept cmask (mean128 (exps128 (spread cmask (ends (k0_pay6 q))) (ends (k0_pay7 k))) (ends (k0_pay8 v)))) := rfl

theorem pay22_eq (q : FVec Ideal S512x256 .bf16) (k v : Vec Ideal S1x256x256 .bf16) :
    k0_pay23 (k0_pay22 cmask (k0_pay17 q) (k0_pay18 k) (k0_pay19 v))
      = headSum (kept cmask (mean128 (exps128 (spread cmask (ends (k0_pay17 q))) (ends (k0_pay18 k))) (ends (k0_pay19 v)))) := rfl

/-! ## At an index -/

theorem spread_apply (mk : FVec Ideal S4x1x256 .bf16) (q : FVec Ideal S128x256 .bf16) (h : Fin 4) (r : Fin 128) (t : Fin 256) :
    spread mk q (ix2 (⟨h.val * 128 + r.val, by omega⟩ : Fin 512) t) = q (ix2 r t) * mk (ix3 h (0 : Fin 1) t) := by
  pointwise [spread]

theorem kept_apply (mk : FVec Ideal S4x1x256 .bf16) (w : FVec Ideal S512x256 .f32) (h : Fin 4) (r : Fin 128) (j : Fin 256) :
    kept mk w (ix3 h r j) = w (ix2 (⟨h.val * 128 + r.val, by omega⟩ : Fin 512) j) * mk (ix3 h (0 : Fin 1) j) := by
  pointwise [kept]

theorem headSum_apply (w : FVec Ideal S4x128x256 .f32) (r : Fin 128) (j : Fin 256) :
    headSum w (ix2 r j) = ∑ h : Fin 4, w (ix3 h r j) := by
  pointwise [headSum]

theorem exps192_apply (q : FVec Ideal S512x256 .bf16) (k : FVec Ideal S192x256 .bf16) (r : Fin 512) (l : Fin 192) :
    exps192 q k (ix2 r l) = Ideal.exp (∑ t : Fin 256, q (ix2 r t) * k (ix2 l t)) := by
  pointwise [exps192]

theorem mean192_apply (e : FVec Ideal S512x192 .f32) (v : FVec Ideal S192x256 .bf16) (r : Fin 512) (j : Fin 256) :
    mean192 e v (ix2 r j) = (∑ l : Fin 192, e (ix2 r l) * v (ix2 l j)) * Ideal.div 1 (∑ l : Fin 192, e (ix2 r l)) := by
  pointwise [mean192]

theorem exps128_apply (q : FVec Ideal S512x256 .bf16) (k : FVec Ideal S128x256 .bf16) (r : Fin 512) (l : Fin 128) :
    exps128 q k (ix2 r l) = Ideal.exp (∑ t : Fin 256, q (ix2 r t) * k (ix2 l t)) := by
  pointwise [exps128]

theorem mean128_apply (e : FVec Ideal S512x128 .f32) (v : FVec Ideal S128x256 .bf16) (r : Fin 512) (j : Fin 256) :
    mean128 e v (ix2 r j) = (∑ l : Fin 128, e (ix2 r l) * v (ix2 l j)) * Ideal.div 1 (∑ l : Fin 128, e (ix2 r l)) := by
  pointwise [mean128]

theorem ends_apply (w : FVec Ideal S256x256 .bf16) (l : Fin 128) (j : Fin 256) :
    ends w (ix2 l j) = w (ix2 (⟨if l.val < 64 then l.val else l.val + 128, by split <;> omega⟩ : Fin 256) j) := by
  pointwise [ends]
  by_cases h : l.val < 64
  · simp only [h, dite_true, if_true]
  · simp only [h, dite_false, if_false]
    congr 2
    exact Fin.ext (by show 192 + (l.val - 64) = l.val + 128; omega)

/-- The head a column belongs to, compared with a head, as the kernel computes it on words. -/
def inHead (h : Fin 4) (j : Fin 256) : BitVec 32 :=
  BitVec.setWidth 32
    (IntOp.cmpi CmpIPredicate.eq
      (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32))
      (BitVec.ofNat 32 h.val))

theorem inHead_eq : ∀ (h : Fin 4) (j : Fin 256), inHead h j = if j.val / 64 = h.val then 1#32 else 0#32 := by
  decide +kernel

theorem cmask_apply (h : Fin 4) (j : Fin 256) :
    cmask (F := Ideal) (ix3 h (0 : Fin 1) j) = if j.val / 64 = h.val then 1 else 0 := by
  pointwise [cmask, k0_pay5, k0_pay2, k0_pay3, k0_pay4]
  refine Eq.trans (b := FloatOps.sitofp (F := Ideal) .f32 (inHead h j)) rfl ?_
  rw [inHead_eq]
  by_cases e : j.val / 64 = h.val
  · rw [if_pos e, if_pos e]
    show (((1#32 : BitVec 32).toInt : ℝ) : EReal) = 1
    norm_num
  · rw [if_neg e, if_neg e]
    show (((0#32 : BitVec 32).toInt : ℝ) : EReal) = 0
    norm_num

/-! ## The loads -/

/-- The window entries as numbers: tokens, query weights, keys, values, output weights. -/
def tokenAt (I : Ins Ideal) (b : Fin 2) (r : Fin 256) (d : Fin 512) : EReal := I.x (ix3 b r d)
def wqAt (I : Ins Ideal) (d : Fin 512) (t : Fin 256) : EReal := I.wq (ix2 d t)
def keyAt (I : Ins Ideal) (b : Fin 2) (l t : Fin 256) : EReal := I.k (ix3 b l t)
def valueAt (I : Ins Ideal) (b : Fin 2) (l t : Fin 256) : EReal := I.v (ix3 b l t)
def woAt (I : Ins Ideal) (g : Fin 1024) (n : Fin 512) : EReal := I.wo (ix2 g n)

theorem lx_apply (I : Ins Ideal) (b : Fin 2) (r : Fin 256) (d : Fin 512) : lx I (ix3 b r d) = tokenAt I b r d := by
  refine congrArg I.x (funext fun a => Fin.ext ?_)
  match a with
  | 0 => show 0 + 1 * b.val = b.val; omega
  | 1 => show 0 + 1 * r.val = r.val; omega
  | 2 => show 0 + 1 * d.val = d.val; omega

theorem lw_apply (I : Ins Ideal) (d : Fin 512) (t : Fin 256) : lw I (ix2 d t) = wqAt I d t := by
  refine congrArg I.wq (funext fun a => Fin.ext ?_)
  match a with
  | 0 => show 0 + 1 * d.val = d.val; omega
  | 1 => show 0 + 1 * t.val = t.val; omega

theorem lk0_apply (I : Ins Ideal) (l : Fin 256) (t : Fin 256) : lk0 I (ix3 (0 : Fin 1) l t) = keyAt I 0 l t := by
  refine congrArg I.k (funext fun a => Fin.ext ?_)
  match a with
  | 0 => rfl
  | 1 => show 0 + 1 * l.val = l.val; omega
  | 2 => show 0 + 1 * t.val = t.val; omega

theorem lk1_apply (I : Ins Ideal) (l : Fin 256) (t : Fin 256) : lk1 I (ix3 (0 : Fin 1) l t) = keyAt I 1 l t := by
  refine congrArg I.k (funext fun a => Fin.ext ?_)
  match a with
  | 0 => rfl
  | 1 => show 0 + 1 * l.val = l.val; omega
  | 2 => show 0 + 1 * t.val = t.val; omega

theorem lv0_apply (I : Ins Ideal) (l : Fin 256) (t : Fin 256) : lv0 I (ix3 (0 : Fin 1) l t) = valueAt I 0 l t := by
  refine congrArg I.v (funext fun a => Fin.ext ?_)
  match a with
  | 0 => rfl
  | 1 => show 0 + 1 * l.val = l.val; omega
  | 2 => show 0 + 1 * t.val = t.val; omega

theorem lv1_apply (I : Ins Ideal) (l : Fin 256) (t : Fin 256) : lv1 I (ix3 (0 : Fin 1) l t) = valueAt I 1 l t := by
  refine congrArg I.v (funext fun a => Fin.ext ?_)
  match a with
  | 0 => rfl
  | 1 => show 0 + 1 * l.val = l.val; omega
  | 2 => show 0 + 1 * t.val = t.val; omega

/-- The scaled query of a token at one of this device's columns. -/
def query (I : Ins Ideal) (b : Fin 2) (r : Fin 256) (t : Fin 256) : EReal :=
  (∑ d : Fin 512, tokenAt I b r d * wqAt I d t) * Ideal.ofBits .f32 0x3E000000#32

theorem cq_apply (I : Ins Ideal) (b : Fin 2) (r : Fin 256) (t : Fin 256) :
    cq I (ix2 (⟨b.val * 256 + r.val, by omega⟩ : Fin 512) t) = query I b r t := by
  pointwise [cq, k0_pay1, query]
  simp only [lx_apply, lw_apply]

/-- A query row against `n` keys: for each head the weighted mean of the values, kept in the head's columns. -/
def meanOf {n : ℕ} (q : Fin 256 → EReal) (k v : Fin n → Fin 256 → EReal) (j : Fin 256) : EReal :=
  ∑ h : Fin 4, ((∑ l, Ideal.exp (∑ t : Fin 256, q t * (if t.val / 64 = h.val then 1 else 0) * k l t) * v l j)
      * Ideal.div 1 (∑ l, Ideal.exp (∑ t : Fin 256, q t * (if t.val / 64 = h.val then 1 else 0) * k l t)))
    * (if j.val / 64 = h.val then 1 else 0)

theorem mean192_of (q : FVec Ideal S128x256 .bf16) (k v : FVec Ideal S192x256 .bf16) (r : Fin 128) (j : Fin 256) :
    headSum (kept cmask (mean192 (exps192 (spread cmask q) k) v)) (ix2 r j)
      = meanOf (fun t => q (ix2 r t)) (fun l t => k (ix2 l t)) (fun l t => v (ix2 l t)) j := by
  simp only [headSum_apply, kept_apply, mean192_apply, exps192_apply, spread_apply, cmask_apply, meanOf]

theorem mean128_of (q : FVec Ideal S128x256 .bf16) (k v : FVec Ideal S128x256 .bf16) (r : Fin 128) (j : Fin 256) :
    headSum (kept cmask (mean128 (exps128 (spread cmask q) k) v)) (ix2 r j)
      = meanOf (fun t => q (ix2 r t)) (fun l t => k (ix2 l t)) (fun l t => v (ix2 l t)) j := by
  simp only [headSum_apply, kept_apply, mean128_apply, exps128_apply, spread_apply, cmask_apply, meanOf]

theorem pay7_apply (w : Vec Ideal S1x256x256 .bf16) (l t : Fin 256) : k0_pay7 w (ix2 l t) = w (ix3 (0 : Fin 1) l t) := by
  pointwise [k0_pay7]
theorem pay8_apply (w : Vec Ideal S1x256x256 .bf16) (l t : Fin 256) : k0_pay8 w (ix2 l t) = w (ix3 (0 : Fin 1) l t) := by
  pointwise [k0_pay8]
theorem pay18_apply (w : Vec Ideal S1x256x256 .bf16) (l t : Fin 256) : k0_pay18 w (ix2 l t) = w (ix3 (0 : Fin 1) l t) := by
  pointwise [k0_pay18]
theorem pay19_apply (w : Vec Ideal S1x256x256 .bf16) (l t : Fin 256) : k0_pay19 w (ix2 l t) = w (ix3 (0 : Fin 1) l t) := by
  pointwise [k0_pay19]
theorem pay6_apply (q : FVec Ideal S512x256 .bf16) (r t : Fin 256) : k0_pay6 q (ix2 r t) = q (ix2 (⟨(0 : Fin 2).val * 256 + r.val, by omega⟩ : Fin 512) t) := by
  pointwise [k0_pay6]
theorem pay17_apply (q : FVec Ideal S512x256 .bf16) (r t : Fin 256) : k0_pay17 q (ix2 r t) = q (ix2 (⟨(1 : Fin 2).val * 256 + r.val, by omega⟩ : Fin 512) t) := by
  pointwise [k0_pay17]

theorem mid_apply (w : FVec Ideal S256x256 .bf16) (r : Fin 128) (t : Fin 256) :
    extractStridedSlice S128x256 ![64, 0] w slices_S256x256_o64_0_S128x256 (ix2 r t) = w (ix2 (⟨64 + r.val, by omega⟩ : Fin 256) t) := by
  pointwise
theorem first_apply (w : FVec Ideal S256x256 .bf16) (l : Fin 192) (t : Fin 256) :
    extractStridedSlice S192x256 ![0, 0] w slices_S256x256_o0_0_S192x256 (ix2 l t) = w (ix2 (⟨l.val, by omega⟩ : Fin 256) t) := by
  pointwise

theorem c118_apply (I : Ins Ideal) (r : Fin 128) (j : Fin 256) :
    c118 I (ix2 r j) = meanOf (query I 0 ⟨64 + r.val, by omega⟩) (fun l : Fin 192 => keyAt I 0 ⟨l.val, by omega⟩)
      (fun l : Fin 192 => valueAt I 0 ⟨l.val, by omega⟩) j := by
  rw [c118, pay12_eq, mean192_of]
  simp only [mid_apply, first_apply, pay6_apply, pay7_apply, pay8_apply, lk0_apply, lv0_apply]
  exact congrArg (fun q => meanOf q _ _ j) (funext fun t => cq_apply I 0 ⟨64 + r.val, by omega⟩ t)

theorem c249_apply (I : Ins Ideal) (r : Fin 128) (j : Fin 256) :
    c249 I (ix2 r j) = meanOf (query I 1 ⟨64 + r.val, by omega⟩) (fun l : Fin 192 => keyAt I 1 ⟨l.val, by omega⟩)
      (fun l : Fin 192 => valueAt I 1 ⟨l.val, by omega⟩) j := by
  rw [c249, pay21_eq, mean192_of]
  simp only [mid_apply, first_apply, pay17_apply, pay18_apply, pay19_apply, lk1_apply, lv1_apply]
  exact congrArg (fun q => meanOf q _ _ j) (funext fun t => cq_apply I 1 ⟨64 + r.val, by omega⟩ t)

/-- Position `l` of the rows at both ends: the first 64, then the last 64. -/
def endRow (l : Fin 128) : Fin 256 := ⟨if l.val < 64 then l.val else l.val + 128, by split <;> omega⟩

theorem group0_apply (I : Ins Ideal) (r : Fin 128) (j : Fin 256) :
    k0_pay13 cmask (k0_pay9 (cq I)) (k0_pay10 (lk0 I)) (k0_pay11 (lv0 I)) (ix2 r j)
      = meanOf (query I 0 (endRow r)) (fun l : Fin 128 => keyAt I 0 (endRow l)) (fun l : Fin 128 => valueAt I 0 (endRow l)) j := by
  rw [pay13_eq, mean128_of]
  simp only [ends_apply, pay6_apply, pay7_apply, pay8_apply, lk0_apply, lv0_apply]
  exact congrArg (fun q => meanOf q _ _ j) (funext fun t => cq_apply I 0 (endRow r) t)

theorem group1_apply (I : Ins Ideal) (r : Fin 128) (j : Fin 256) :
    k0_pay23 (c268 I) (ix2 r j)
      = meanOf (query I 1 (endRow r)) (fun l : Fin 128 => keyAt I 1 (endRow l)) (fun l : Fin 128 => valueAt I 1 (endRow l)) j := by
  rw [c268, pay22_eq, mean128_of]
  simp only [ends_apply, pay17_apply, pay18_apply, pay19_apply, lk1_apply, lv1_apply]
  exact congrArg (fun q => meanOf q _ _ j) (funext fun t => cq_apply I 1 (endRow r) t)

theorem top0_apply (I : Ins Ideal) (r : Fin 64) (j : Fin 256) : top0 I (ix2 r j)
    = meanOf (query I 0 (endRow ⟨r.val, by omega⟩)) (fun l : Fin 128 => keyAt I 0 (endRow l)) (fun l : Fin 128 => valueAt I 0 (endRow l)) j := by
  rw [← group0_apply]
  pointwise [top0, k0_pay14]

theorem bot0_apply (I : Ins Ideal) (r : Fin 64) (j : Fin 256) : bot0 I (ix2 r j)
    = meanOf (query I 0 (endRow ⟨64 + r.val, by omega⟩)) (fun l : Fin 128 => keyAt I 0 (endRow l)) (fun l : Fin 128 => valueAt I 0 (endRow l)) j := by
  rw [← group0_apply]
  pointwise [bot0, k0_pay16]

theorem top1_apply (I : Ins Ideal) (r : Fin 64) (j : Fin 256) : top1 I (ix2 r j)
    = meanOf (query I 1 (endRow ⟨r.val, by omega⟩)) (fun l : Fin 128 => keyAt I 1 (endRow l)) (fun l : Fin 128 => valueAt I 1 (endRow l)) j := by
  rw [← group1_apply]
  pointwise [top1, k0_pay24]

theorem bot1_apply (I : Ins Ideal) (r : Fin 64) (j : Fin 256) : bot1 I (ix2 r j)
    = meanOf (query I 1 (endRow ⟨64 + r.val, by omega⟩)) (fun l : Fin 128 => keyAt I 1 (endRow l)) (fun l : Fin 128 => valueAt I 1 (endRow l)) j := by
  rw [← group1_apply]
  pointwise [bot1, k0_pay26]

theorem mid0_apply (I : Ins Ideal) (r : Fin 128) (j : Fin 256) : mid0 I (ix2 r j) = c118 I (ix2 r j) := by
  pointwise [mid0, k0_pay15]

theorem mid1_apply (I : Ins Ideal) (r : Fin 128) (j : Fin 256) : mid1 I (ix2 r j) = c249 I (ix2 r j) := by
  pointwise [mid1, k0_pay25]

/-- A row of a device's context, at the group the row belongs to. -/
def rowMean (I : Ins Ideal) (b : Fin 2) (r : Fin 256) (j : Fin 256) : EReal :=
  if 64 ≤ r.val ∧ r.val < 192 then
    meanOf (query I b r) (fun l : Fin 192 => keyAt I b ⟨l.val, by omega⟩) (fun l : Fin 192 => valueAt I b ⟨l.val, by omega⟩) j
  else meanOf (query I b r) (fun l : Fin 128 => keyAt I b (endRow l)) (fun l : Fin 128 => valueAt I b (endRow l)) j

theorem endRow_low (r : Fin 256) (h : r.val < 64) : endRow ⟨r.val, by omega⟩ = r := by
  refine Fin.ext ?_
  show (if r.val < 64 then r.val else r.val + 128) = r.val
  rw [if_pos h]

theorem endRow_high (r : Fin 256) (h : 192 ≤ r.val) : endRow ⟨64 + (r.val - 192), by omega⟩ = r := by
  refine Fin.ext ?_
  show (if 64 + (r.val - 192) < 64 then 64 + (r.val - 192) else 64 + (r.val - 192) + 128) = r.val
  rw [if_neg (by omega)]
  omega

theorem ctx_apply0 (I : Ins Ideal) (r : Fin 256) (j : Fin 256) :
    ctx I (ix2 (⟨r.val, by omega⟩ : Fin 512) j) = rowMean I 0 r j := by
  unfold rowMean
  by_cases h0 : r.val < 64
  · rw [if_neg (by omega)]
    refine (dif_pos h0).trans ((top0_apply I ⟨r.val, h0⟩ j).trans ?_)
    rw [endRow_low r h0]
  by_cases h1 : r.val < 192
  · rw [if_pos (by omega)]
    refine (dif_neg h0).trans ((dif_pos h1).trans ((mid0_apply I ⟨r.val - 64, by omega⟩ j).trans ((c118_apply I _ j).trans ?_)))
    rw [show (⟨64 + (r.val - 64), by omega⟩ : Fin 256) = r from Fin.ext (by show 64 + (r.val - 64) = r.val; omega)]
  · rw [if_neg (by omega)]
    refine (dif_neg h0).trans ((dif_neg h1).trans ((dif_pos r.isLt).trans ((bot0_apply I ⟨r.val - 192, by omega⟩ j).trans ?_)))
    rw [endRow_high r (by omega)]

theorem ctx_apply1 (I : Ins Ideal) (r : Fin 256) (j : Fin 256) :
    ctx I (ix2 (⟨256 + r.val, by omega⟩ : Fin 512) j) = rowMean I 1 r j := by
  unfold rowMean
  have a0 : ¬ 256 + r.val < 64 := by omega
  have a1 : ¬ 256 + r.val < 192 := by omega
  have a2 : ¬ 256 + r.val < 256 := by omega
  refine (dif_neg a0).trans ((dif_neg a1).trans ((dif_neg a2).trans ?_))
  by_cases h0 : r.val < 64
  · have a3 : 256 + r.val < 320 := by omega
    rw [if_neg (by omega)]
    have e : (⟨256 + r.val - 256, by omega⟩ : Fin 64) = ⟨r.val, h0⟩ := Fin.ext (by show 256 + r.val - 256 = r.val; omega)
    refine (dif_pos a3).trans ((congrArg (fun z : Fin 64 => top1 I (ix2 z j)) e).trans ((top1_apply I ⟨r.val, h0⟩ j).trans ?_))
    rw [endRow_low r h0]
  have a3 : ¬ 256 + r.val < 320 := by omega
  by_cases h1 : r.val < 192
  · have a4 : 256 + r.val < 448 := by omega
    rw [if_pos (by omega)]
    refine (dif_neg a3).trans ((dif_pos a4).trans ((mid1_apply I ⟨256 + r.val - 320, by omega⟩ j).trans ((c249_apply I _ j).trans ?_)))
    rw [show (⟨64 + (256 + r.val - 320), by omega⟩ : Fin 256) = r from Fin.ext (by show 64 + (256 + r.val - 320) = r.val; omega)]
  · have a4 : ¬ 256 + r.val < 448 := by omega
    rw [if_neg (by omega)]
    have e : (⟨256 + r.val - 448, by omega⟩ : Fin 64) = ⟨r.val - 192, by omega⟩ := Fin.ext (by show 256 + r.val - 448 = r.val - 192; omega)
    refine (dif_neg a3).trans ((dif_neg a4).trans ((congrArg (fun z : Fin 64 => bot1 I (ix2 z j)) e).trans ((bot1_apply I ⟨r.val - 192, by omega⟩ j).trans ?_)))
    rw [endRow_high r (by omega)]

/-- A device's context at an index: the batch and the row fold into one row number. -/
theorem ctx_apply (I : Ins Ideal) (b : Fin 2) (r : Fin 256) (j : Fin 256) :
    ctx I (ix2 (⟨b.val * 256 + r.val, by omega⟩ : Fin 512) j) = rowMean I b r j := by
  match b with
  | 0 => exact (congrArg (fun z : Fin 512 => ctx I (ix2 z j)) (Fin.ext (by show 0 * 256 + r.val = r.val; omega))).trans (ctx_apply0 I r j)
  | 1 => exact (congrArg (fun z : Fin 512 => ctx I (ix2 z j)) (Fin.ext (by show 1 * 256 + r.val = 256 + r.val; omega))).trans (ctx_apply1 I r j)

end Cert.KernelIdeal.Run

end
-- ==== Proof.KernelIdeal.Windows.lean ====
/- The five input windows of a device, entry by entry, from the argument arrays. -/
module

public import proofs.«01_k».proof.Proof.KernelIdeal.Region
public import proofs.«01_k».proof.Proof.KernelIdeal.Heads
public import Idealize.ShloMosaic.Lib.StableHlo.Run
public import Idealize.ShloMosaic.Lib.Claim

@[expose] public section

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The argument arrays at their shapes. -/
def arg0 : FVec Ideal S2x256x512 .bf16 := m ((c.tc : Thread nD τ).loc main_arg0)
def arg1 : FVec Ideal S512x1024 .bf16 := m ((c.tc : Thread nD τ).loc main_arg1)
def arg2 : FVec Ideal S2x256x4x64 .bf16 := m ((c.tc : Thread nD τ).loc main_arg2)
def arg3 : FVec Ideal S2x256x4x64 .bf16 := m ((c.tc : Thread nD τ).loc main_arg3)
def arg4 : FVec Ideal S1024x512 .bf16 := m ((c.tc : Thread nD τ).loc main_arg4)

theorem token_arg (b : Fin 2) (r : Fin 256) (d : Fin 512) : tokenAt (ins m c) b r d = arg0 m c (ix3 b r d) :=
  congrFun (V1_of m c main_arg0 (by decide)) (ix3 b r d)

theorem wo_arg (g : Fin 1024) (n : Fin 512) : woAt (ins m c) g n = arg4 m c (ix2 g n) :=
  congrFun (V1_of m c main_arg4 (by decide)) (ix2 g n)

theorem k_eq : V1 m c main_v10 = shapeCast S2x256x256 (arg2 m c) shapeCasts_S2x256x4x64_S2x256x256 := by
  unfold_abbrev_sides
  after_results_simp
  rfl

theorem v_eq : V1 m c main_v11 = shapeCast S2x256x256 (arg3 m c) shapeCasts_S2x256x4x64_S2x256x256 := by
  unfold_abbrev_sides
  after_results_simp
  rfl

theorem key_arg (b : Fin 2) (l t : Fin 256) :
    keyAt (ins m c) b l t = arg2 m c (ix4 b l (⟨t.val / 64, by omega⟩ : Fin 4) (⟨t.val % 64, by omega⟩ : Fin 64)) := by
  refine (congrFun (k_eq m c) (ix3 b l t)).trans ?_
  pointwise

theorem value_arg (b : Fin 2) (l t : Fin 256) :
    valueAt (ins m c) b l t = arg3 m c (ix4 b l (⟨t.val / 64, by omega⟩ : Fin 4) (⟨t.val % 64, by omega⟩ : Fin 64)) := by
  refine (congrFun (v_eq m c) (ix3 b l t)).trans ?_
  pointwise

/-- The first of a device's columns, as the program computes it on words. -/
theorem colStart : ∀ c : Dev nD, BitVec.toInt
    (select
      (cmpi CmpIPredicate.slt
        (muli (id (Host.remui (Host.divui (constantI S_ 32 c.word) (constantI S_ 32 1#32)) (constantI S_ 32 4#32))) (constantI S_ 32 256#32))
        (constantI S_ 32 0#32))
      (addi
        (muli (id (Host.remui (Host.divui (constantI S_ 32 c.word) (constantI S_ 32 1#32)) (constantI S_ 32 4#32))) (constantI S_ 32 256#32))
        (constantI S_ 32 1024#32))
      (muli (id (Host.remui (Host.divui (constantI S_ 32 c.word) (constantI S_ 32 1#32)) (constantI S_ 32 4#32))) (constantI S_ 32 256#32))
      (Shape.Idx.first h_S_)) = ((256 * c.val : ℕ) : ℤ) := by decide +kernel

theorem wq_eq : V1 m c main_v9 = Host.dynamicSlice S512x256 (arg1 m c) ![0, ((256 * c.val : ℕ) : ℤ)] sliceFits_S512x1024_S512x256 := by
  unfold_abbrev_sides
  after_results_simp
  refine congrArg (fun f => Host.dynamicSlice S512x256 (arg1 m c) f sliceFits_S512x1024_S512x256) (funext fun k => ?_)
  match k with
  | 0 =>
    simp only [Matrix.cons_val_zero]
    after_results_simp
    rfl
  | 1 =>
    simp only [Matrix.cons_val_one, Matrix.cons_val_zero]
    after_results_simp
    exact colStart c

theorem wq_arg (d : Fin 512) (t : Fin 256) :
    wqAt (ins m c) d t = arg1 m c (ix2 d (⟨c.val * 256 + t.val, by have : c.val < 4 := c.isLt; omega⟩ : Fin 1024)) := by
  refine (congrFun (wq_eq m c) (ix2 d t)).trans ?_
  pointwise
  have hc : c.val < 4 := c.isLt
  congr 2
  · refine Fin.ext ?_
    show Host.clampedStart S512x1024 S512x256 _ _ 0 + d.val = d.val
    rw [Host.clampedStart_of_le _ _ _ 0 rfl (by decide)]
    omega
  · refine Fin.ext ?_
    show Host.clampedStart S512x1024 S512x256 _ _ 1 + t.val = c.val * 256 + t.val
    rw [Host.clampedStart_of_le _ _ _ (256 * c.val) rfl (by show 256 * c.val + 256 ≤ 1024; omega)]
    omega

end Cert.KernelIdeal.Run

end
-- ==== Proof.Mean.lean ====
/- The weighted mean a row takes over its keys, over the extended reals: the exponentials divided by their sum,
   with the row's greatest score subtracted first or not, and with unused keys at minus infinity or left out. -/
module

public import Idealize.ShloMosaic.PureOps.Ideal
public import Idealize.ShloMosaic.Lib.IdealHost
public import Idealize.ShloMosaic.Lib.Pointwise

@[expose] public section

noncomputable section

namespace Cert.Mean

open Idealize.ShloMosaic

/-- A sum of reals, taken in the extended reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- A real factor that is not negative goes into a sum of any extended reals. -/
theorem sum_scale {ι : Type} [Fintype ι] (f : ι → EReal) {r : ℝ} (hr : 0 ≤ r) : (∑ i, f i) * (r : EReal) = ∑ i, f i * (r : EReal) := by
  classical
  induction (Finset.univ : Finset ι) using Finset.induction_on with
  | empty => simp
  | insert a s ha ih =>
    rw [Finset.sum_insert ha, Finset.sum_insert ha, EReal.right_distrib_of_nonneg_of_ne_top (by exact_mod_cast hr) (EReal.coe_ne_top r), ih]

variable {n k : ℕ} (A : Fin n → Prop) [DecidablePred A] (φ : Fin k → Fin n) (sc : Fin n → ℝ) (v : Fin n → EReal)

/-- The scores with minus infinity at the keys not used. -/
def masked (j : Fin n) : EReal := if A j then (sc j : EReal) else ⊥

/-- The greatest of them. -/
def greatest : EReal := Finset.univ.fold max ⊥ (masked A sc)

theorem greatest_real {j₀ : Fin n} (h₀ : A j₀) : ∃ μ : ℝ, greatest A sc = μ := by
  have htop : greatest A sc < ⊤ := by
    refine (Finset.fold_max_lt _).mpr ⟨bot_lt_top, fun j _ => ?_⟩
    unfold masked
    split
    · exact EReal.coe_lt_top _
    · exact bot_lt_top
  have hbot : ⊥ < greatest A sc := by
    refine (Finset.lt_fold_max _).mpr (Or.inr ⟨j₀, Finset.mem_univ _, ?_⟩)
    unfold masked
    rw [if_pos h₀]
    exact EReal.bot_lt_coe _
  exact ⟨(greatest A sc).toReal, (EReal.coe_toReal htop.ne hbot.ne').symm⟩

/-- The exponentials, with the greatest score subtracted. -/
def weight (j : Fin n) : EReal := Ideal.exp (masked A sc j - greatest A sc)

/-- The mean with the row's greatest score subtracted is the plain mean over the keys used. -/
theorem mean_eq (hφ : Function.Injective φ) (hA : ∀ j, A j ↔ ∃ l, φ l = j) (l₀ : Fin k) :
    ∑ j, v j * Ideal.div (weight A sc j) (∑ i, weight A sc i)
      = (∑ l, Ideal.exp (sc (φ l) : EReal) * v (φ l)) * Ideal.div 1 (∑ l, Ideal.exp (sc (φ l) : EReal)) := by
  obtain ⟨μ, hμ⟩ := greatest_real A sc ((hA (φ l₀)).mpr ⟨l₀, rfl⟩)
  have hw : ∀ j, weight A sc j = if A j then ((Real.exp (sc j - μ) : ℝ) : EReal) else 0 := by
    intro j
    unfold weight masked
    rw [hμ]
    split
    · rw [← EReal.coe_sub, Ideal.exp_coe]
    · rw [EReal.bot_sub, Ideal.exp_bot]
  have hon : ∀ l, weight A sc (φ l) = ((Real.exp (sc (φ l) - μ) : ℝ) : EReal) := fun l => by
    rw [hw, if_pos ((hA _).mpr ⟨l, rfl⟩)]
  have hoff : ∀ j, j ∉ Set.range φ → weight A sc j = 0 := fun j hj => by
    rw [hw, if_neg fun h => hj ((hA j).mp h)]
  have hS : ∑ i, weight A sc i = ((∑ l, Real.exp (sc (φ l) - μ) : ℝ) : EReal) := by
    rw [coe_sum]
    exact (Fintype.sum_of_injective φ hφ _ _ hoff fun l => (hon l).symm).symm
  have hT : ∑ l, Ideal.exp (sc (φ l) : EReal) = ((∑ l, Real.exp (sc (φ l)) : ℝ) : EReal) := by
    rw [coe_sum]
    exact Finset.sum_congr rfl fun l _ => Ideal.exp_coe _
  have pT : 0 < ∑ l, Real.exp (sc (φ l)) := Finset.sum_pos (fun l _ => Real.exp_pos _) ⟨l₀, Finset.mem_univ _⟩
  have pS : 0 < ∑ l, Real.exp (sc (φ l) - μ) := Finset.sum_pos (fun l _ => Real.exp_pos _) ⟨l₀, Finset.mem_univ _⟩
  have hST : ∑ l, Real.exp (sc (φ l) - μ) = (∑ l, Real.exp (sc (φ l))) / Real.exp μ := by
    rw [Finset.sum_div]
    exact Finset.sum_congr rfl fun l _ => Real.exp_sub _ _
  rw [hS, hT, Ideal.div_coe pT.ne', one_mul, sum_scale _ (by positivity)]
  refine (Fintype.sum_of_injective φ hφ _ _ (fun j hj => ?_) fun l => ?_).symm
  · rw [hoff j hj, Ideal.div_coe pS.ne', zero_mul, mul_zero]
  · rw [hon, Ideal.div_coe pS.ne', Ideal.exp_coe, ← EReal.coe_mul, mul_comm (((Real.exp (sc (φ l)) : ℝ)) : EReal), mul_assoc, ← EReal.coe_mul]
    congr 2
    rw [hST, Real.exp_sub]
    have := Real.exp_pos μ
    field_simp

/-! ## Scores of real entries -/

/-- An extended real that is a real number. -/
def IsReal (x : EReal) : Prop := ∃ r : ℝ, x = r

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- A real scale goes from the first factors of a sum of products to the sum. -/
theorem scale_out {ι : Type} [Fintype ι] {q w : ι → EReal} {c : EReal} (hq : ∀ i, IsReal (q i)) (hw : ∀ i, IsReal (w i)) (hc : IsReal c) :
    ∑ i, (q i * c) * w i = (∑ i, q i * w i) * c := by
  choose a ha using hq
  choose b hb using hw
  obtain ⟨r, rfl⟩ := hc
  have e : ∀ i, (q i * (r : EReal)) * w i = ((a i * b i * r : ℝ) : EReal) := fun i => by
    rw [ha, hb, ← EReal.coe_mul, ← EReal.coe_mul]; congr 1; ring
  have e' : ∀ i, q i * w i = ((a i * b i : ℝ) : EReal) := fun i => by rw [ha, hb, ← EReal.coe_mul]
  simp only [e, e']
  rw [← coe_sum, ← coe_sum, ← EReal.coe_mul, Finset.sum_mul]

theorem eighth_real : IsReal (Ideal.ofBits .f32 0x3E000000#32) := by
  refine ⟨1 / 8, ?_⟩
  simp [Ideal.ofBits, Ideal.ieee, -EReal.coe_mul]; norm_num

end Cert.Mean

end
-- ==== Proof.Equal.Pre.lean ====
/- The precondition read back: on every device the tokens, the query weights and the keys are real numbers. -/
module

public import proofs.«01_k».proof.Defs
public import proofs.«01_k».proof.Proof.KernelIdeal.Windows
public import proofs.«01_k».proof.Proof.Mean
public import Idealize.ShloMosaic.Lib.ReduceAll

@[expose] public section

noncomputable section

namespace Cert.Equal

open Cert.KernelIdeal Cert.KernelIdeal.Gen Cert.KernelIdeal.Run
open Idealize.ShloMosaic Idealize.ShloMosaic.TcCoe Idealize.SL.Sem

theorem pre_facts : Cert.Pre_scores_finite_KernelIdeal.Facts where
  bitsLt_bf16_f32 := by decide
  bcast_S_S2x256x512 := by decide
  reducesTo_S2x256x512_S_d0_1_2 := by decide
  h_S_ := by decide
  bcast_S_S512x1024 := by decide
  reducesTo_S512x1024_S_d0_1 := by decide
  bcast_S_S2x256x4x64 := by decide
  reducesTo_S2x256x4x64_S_d0_1_2_3 := by decide

theorem pre_facts_reference : Cert.Pre_scores_finite_ReferenceIdeal.Facts where
  bitsLt_bf16_f32 := by decide
  bcast_S_S2x256x512 := by decide
  reducesTo_S2x256x512_S_d0_1_2 := by decide
  h_S_ := by decide
  bcast_S_S512x1024 := by decide
  reducesTo_S512x1024_S_d0_1 := by decide
  bcast_S_S2x256x16x64 := by decide
  reducesTo_S2x256x16x64_S_d0_1_2_3 := by decide

theorem ofBits_top : Ideal.ofBits .f32 0x7F800000#32 = (⊤ : EReal) := by
  simp [Ideal.ofBits, Ideal.ieee]

/-- A value whose magnitude compares below infinity is a real number. -/
theorem real_of_below (x : EReal) (h : Ideal.cmp .olt (max x (-x)) (Ideal.ofBits .f32 0x7F800000#32) = 1#1) : Mean.IsReal x := by
  rw [ofBits_top] at h
  have hlt : max x (-x) < ⊤ := by
    by_contra hn
    simp [Ideal.cmp, hn] at h
  have h1 : x ≠ ⊤ := (lt_of_le_of_lt (le_max_left _ _) hlt).ne
  have h2 : x ≠ ⊥ := fun e => by
    subst e
    simp at hlt
  exact ⟨x.toReal, (EReal.coe_toReal h1 h2).symm⟩

instance : Subsingleton (Cert.Pre_scores_finite_KernelIdeal.S_).Idx := ⟨fun a b => funext fun k => k.elim0⟩

theorem all_real {s : Shape} {t u : Shape} {axes : List (Fin s.rank)} [Subsingleton t.Idx] (x : FVec Ideal s .bf16) (p : s.Idx → BitVec 1) (init : u.Idx → BitVec 1)
    (hr : s.ReducesTo axes t) (hu : 0 < u.numel) (j : t.Idx) (e : Host.reduce IntOp.andi p init hr hu j = 1#1)
    (hp : ∀ i, p i = Ideal.cmp .olt (max (x i : EReal) (-(x i : EReal))) (Ideal.ofBits .f32 0x7F800000#32)) (i : s.Idx) : Mean.IsReal (x i) :=
  real_of_below _ ((hp i).symm.trans (Host.reduce_andi_all p init hr hu j e i))

section
variable [Cert.Pre_scores_finite_KernelIdeal.Facts] (m : (ℓ : Loc nD τ sig) → Buf (Elt Ideal) ℓ) (hpre : Cert.Pre_KernelIdeal_scores_finite_KernelIdeal m) (c : Dev nD)
include hpre

theorem tokens_real (i : S2x256x512.Idx) : Mean.IsReal (arg0 m c i) := by
  have h := (hpre c).1
  dsimp only [Cert.Pre_scores_finite_KernelIdeal.fn] at h
  exact all_real (arg0 m c) _ _ _ _ ix0 (congrFun h ix0) (fun _ => rfl) i

theorem queryWeights_real (i : S512x1024.Idx) : Mean.IsReal (arg1 m c i) := by
  have h := (hpre c).2.1
  dsimp only [Cert.Pre_scores_finite_KernelIdeal.fn] at h
  exact all_real (arg1 m c) _ _ _ _ ix0 (congrFun h ix0) (fun _ => rfl) i

theorem keys_real (i : S2x256x4x64.Idx) : Mean.IsReal (arg2 m c i) := by
  have h := (hpre c).2.2
  dsimp only [Cert.Pre_scores_finite_KernelIdeal.fn] at h
  exact all_real (arg2 m c) _ _ _ _ ix0 (congrFun h ix0) (fun _ => rfl) i

end

end Cert.Equal

end
-- ==== Proof.KernelIdeal.Mean.lean ====
/- A context entry as the plain mean of its own head's values. -/
module

public import proofs.«01_k».proof.Proof.KernelIdeal.Windows
public import proofs.«01_k».proof.Proof.Mean

@[expose] public section

noncomputable section

namespace Cert.KernelIdeal.Run

open Cert.KernelIdeal Cert.KernelIdeal.Gen
open Idealize.ShloMosaic Idealize.ShloMosaic.TcCoe

/-- A sum over the 256 columns, kept to one head's, is the sum over that head's 64. -/
theorem sum_head (q w : Fin 256 → EReal) (h : Fin 4) :
    ∑ t : Fin 256, q t * (if t.val / 64 = h.val then 1 else 0) * w t
      = ∑ e : Fin 64, q ⟨h.val * 64 + e.val, by omega⟩ * w ⟨h.val * 64 + e.val, by omega⟩ := by
  rw [Fin.sum_univ_tiles 4 64 rfl]
  rw [Finset.sum_eq_single h]
  · refine Finset.sum_congr rfl fun e _ => ?_
    rw [if_pos (by show (h.val * 64 + e.val) / 64 = h.val; omega), mul_one]
  · intro g _ hg
    refine Finset.sum_eq_zero fun e _ => ?_
    rw [if_neg (fun he => hg (Fin.ext (by have he' : (g.val * 64 + e.val) / 64 = h.val := he; omega))), mul_zero, zero_mul]
  · exact fun hn => absurd (Finset.mem_univ _) hn

/-- In a head's column, only that head's mean is kept. -/
theorem meanOf_head {n : ℕ} (q : Fin 256 → EReal) (k v : Fin n → Fin 256 → EReal) (h : Fin 4) (e : Fin 64) :
    meanOf q k v ⟨h.val * 64 + e.val, by omega⟩
      = (∑ l, Ideal.exp (∑ f : Fin 64, q ⟨h.val * 64 + f.val, by omega⟩ * k l ⟨h.val * 64 + f.val, by omega⟩) * v l ⟨h.val * 64 + e.val, by omega⟩)
        * Ideal.div 1 (∑ l, Ideal.exp (∑ f : Fin 64, q ⟨h.val * 64 + f.val, by omega⟩ * k l ⟨h.val * 64 + f.val, by omega⟩)) := by
  unfold meanOf
  rw [Finset.sum_eq_single h]
  · rw [if_pos (by show (h.val * 64 + e.val) / 64 = h.val; omega), mul_one]
    simp only [sum_head]
  · intro g _ hg
    rw [if_neg (fun he => hg (Fin.ext (by have he' : (h.val * 64 + e.val) / 64 = g.val := he; omega))), mul_zero]
  · exact fun hn => absurd (Finset.mem_univ _) hn

end Cert.KernelIdeal.Run

end
-- ==== Proof.KernelIdeal.Out.lean ====
/- A device's output at an index: the sum, over the four devices, of their context rows times the output weights. -/
module

public import proofs.«01_k».proof.Proof.KernelIdeal.Heads

@[expose] public section

noncomputable section

namespace Cert.KernelIdeal.Run

open Cert.KernelIdeal Cert.KernelIdeal.Gen
open Idealize.ShloMosaic Idealize.ShloMosaic.TcCoe

theorem lo_apply (I : Ins Ideal) (off : Fin 2 → ℕ) (inb) (a : ℕ) (ha : a + 256 ≤ 1024) (h : off = ![a, 0]) (j : Fin 256) (n : Fin 512) :
    lo I off inb (ix2 j n) = woAt I ⟨a + j.val, by omega⟩ n := by
  subst h
  refine congrArg I.wo (funext fun x => Fin.ext ?_)
  match x with
  | 0 => show a + 1 * j.val = a + j.val; omega
  | 1 => show 0 + 1 * n.val = n.val; omega

variable (In : Dev nD → Ins Ideal) (c : Dev nD)

theorem ls_apply (r : Fin 512) (j : Fin 256) : ls In c (ix2 r j) = ctx (In c) (ix2 r j) := by
  refine congrArg (ctx (In c)) (funext fun x => Fin.ext ?_)
  match x with
  | 0 => show 0 + 1 * r.val = r.val; omega
  | 1 => show 0 + 1 * j.val = j.val; omega

theorem lr0_apply (r : Fin 512) (j : Fin 256) : lr0 In c (ix3 (0 : Fin 1) r j) = ctx (In (prv c 0)) (ix2 r j) := by
  refine congrArg (ctx (In (prv c 0))) (funext fun x => Fin.ext ?_)
  match x with
  | 0 => show 0 + 1 * r.val = r.val; omega
  | 1 => show 0 + 1 * j.val = j.val; omega

theorem lr1_apply (r : Fin 512) (j : Fin 256) : lr1 In c (ix3 (0 : Fin 1) r j) = ctx (In (prv c 1)) (ix2 r j) := by
  refine congrArg (ctx (In (prv c 1))) (funext fun x => Fin.ext ?_)
  match x with
  | 0 => show 0 + 1 * r.val = r.val; omega
  | 1 => show 0 + 1 * j.val = j.val; omega

theorem lr2_apply (r : Fin 512) (j : Fin 256) : lr2 In c (ix3 (0 : Fin 1) r j) = ctx (In (prv c 2)) (ix2 r j) := by
  refine congrArg (ctx (In (prv c 2))) (funext fun x => Fin.ext ?_)
  match x with
  | 0 => show 0 + 1 * r.val = r.val; omega
  | 1 => show 0 + 1 * j.val = j.val; omega

theorem off2_1 (c : Dev nD) : k0_off2 c 1#32 = ![256 * (prv c 0).val, 0] := by revert c; decide +kernel
theorem off2_2 (c : Dev nD) : k0_off2 c 2#32 = ![256 * (prv c 1).val, 0] := by revert c; decide +kernel
theorem off2_3 (c : Dev nD) : k0_off2 c 3#32 = ![256 * (prv c 2).val, 0] := by revert c; decide +kernel

/-- What device `d`'s columns add to the output, with device `c`'s copy of the output weights. -/
def share (b : Fin 2) (r : Fin 256) (n : Fin 512) (d : Dev nD) : EReal :=
  ∑ j : Fin 256, rowMean (In d) b r j * woAt (In c) ⟨256 * d.val + j.val, by have : d.val < 4 := d.isLt; omega⟩ n

theorem lo_at (d : Dev nD) (off : Fin 2 → ℕ) (inb) (h : off = ![256 * d.val, 0]) (j : Fin 256) (n : Fin 512) :
    lo (In c) off inb (ix2 j n) = woAt (In c) ⟨256 * d.val + j.val, by have : d.val < 4 := d.isLt; omega⟩ n :=
  lo_apply (In c) off inb (256 * d.val) (by have : d.val < 4 := d.isLt; omega) h j n

theorem out_shares (b : Fin 2) (r : Fin 256) (n : Fin 512) :
    out In c (ix3 b r n) = share In c b r n c + share In c b r n (prv c 0) + share In c b r n (prv c 2) + share In c b r n (prv c 1) := by
  pointwise [out, o29, o28, o27, k0_pay32, k0_pay31, k0_pay30, k0_pay29, k0_pay28, k0_pay27]
  refine congrArg₂ (· + ·) (congrArg₂ (· + ·) (congrArg₂ (· + ·) ?_ ?_) ?_) ?_
  · exact Finset.sum_congr rfl fun j _ => congrArg₂ (· * ·) ((ls_apply In c _ j).trans (ctx_apply _ b r j)) (lo_at In c c _ _ (k0_off1_eq c) j n)
  · exact Finset.sum_congr rfl fun j _ => congrArg₂ (· * ·) ((lr0_apply In c _ j).trans (ctx_apply _ b r j)) (lo_at In c (prv c 0) _ _ (off2_1 c) j n)
  · exact Finset.sum_congr rfl fun j _ => congrArg₂ (· * ·) ((lr2_apply In c _ j).trans (ctx_apply _ b r j)) (lo_at In c (prv c 2) _ _ (off2_3 c) j n)
  · exact Finset.sum_congr rfl fun j _ => congrArg₂ (· * ·) ((lr1_apply In c _ j).trans (ctx_apply _ b r j)) (lo_at In c (prv c 1) _ _ (off2_2 c) j n)

theorem sum_prv (f : Dev nD → EReal) : f c + f (prv c 0) + f (prv c 2) + f (prv c 1) = ∑ d : Dev nD, f d := by
  have e : ∑ d : Dev nD, f d = f (0 : Fin 4) + f (1 : Fin 4) + f (2 : Fin 4) + f (3 : Fin 4) := Fin.sum_univ_four (f := f)
  rw [e]
  match c with
  | (0 : Fin 4) => show f (0 : Fin 4) + f (3 : Fin 4) + f (1 : Fin 4) + f (2 : Fin 4) = _; ac_rfl
  | (1 : Fin 4) => show f (1 : Fin 4) + f (0 : Fin 4) + f (2 : Fin 4) + f (3 : Fin 4) = _; ac_rfl
  | (2 : Fin 4) => show f (2 : Fin 4) + f (1 : Fin 4) + f (3 : Fin 4) + f (0 : Fin 4) = _; ac_rfl
  | (3 : Fin 4) => show f (3 : Fin 4) + f (2 : Fin 4) + f (0 : Fin 4) + f (1 : Fin 4) = _; ac_rfl

theorem out_apply (b : Fin 2) (r : Fin 256) (n : Fin 512) : out In c (ix3 b r n) = ∑ d : Dev nD, share In c b r n d :=
  (out_shares In c b r n).trans (sum_prv c (share In c b r n))

end Cert.KernelIdeal.Run

end
-- ==== Proof.Ref.Text.lean ====
/- The reference's result, cut into named parts: the block number of a position, which keys a row may
   use, the scores, the weights, the attention result, the output. -/
module

public import proofs.«01_k».proof.Proof.Gen.ReferenceIdeal.Run
public import Idealize.ShloMosaic.PureOps.Ideal

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

/-- The block a position lies in: the position over 64, rounded down. -/
def blocks : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))

/-- The divisor 3 as the remainder's code prepares it. -/
def three : IVec S_ 32 := select (cmpi .eq (id (constantI S_ 32 3#32)) (constantI S_ 32 0#32)) (constantI S_ 32 1#32) (id (constantI S_ 32 3#32))

/-- The sum of the two blocks, by rows and columns. -/
def blockSum (b : IVec S256 32) : IVec S256x256 32 :=
  addi (broadcastInDim S256x256 ![0, 1] bcast_S256x1_S256x256_0_1 (broadcastInDim S256x1 ![0] bcast_S256_S256x1_0 b))
    (broadcastInDim S256x256 ![0, 1] bcast_S1x256_S256x256_0_1 (broadcastInDim S1x256 ![1] bcast_S256_S1x256_1 b))

/-- The remainder of a sum of blocks by three, with the divisor's sign. -/
def residue (s : IVec S256x256 32) : IVec S256x256 32 :=
  select (andi (cmpi .ne (cmpi .slt (Host.remsi s (broadcastInDim S256x256 ![] bcast_S_S256x256 three)) (broadcastInDim S256x256 ![] bcast_S_S256x256 (constantI S_ 32 0#32)))
        (broadcastInDim S256x256 ![] bcast_S_S256x256 (cmpi .slt three (constantI S_ 32 0#32))))
      (cmpi .ne (Host.remsi s (broadcastInDim S256x256 ![] bcast_S_S256x256 three)) (broadcastInDim S256x256 ![] bcast_S_S256x256 (constantI S_ 32 0#32))))
    (addi (Host.remsi s (broadcastInDim S256x256 ![] bcast_S_S256x256 three)) (broadcastInDim S256x256 ![] bcast_S_S256x256 three))
    (Host.remsi s (broadcastInDim S256x256 ![] bcast_S_S256x256 three))

/-- Which keys (columns) a row may use, from the blocks. -/
def maskOf (b : IVec S256 32) : IVec S256x256 1 :=
  ori (ori (cmpi .eq (broadcastInDim S256x256 ![0, 1] bcast_S256x1_S256x256_0_1 (broadcastInDim S256x1 ![0] bcast_S256_S256x1_0 b))
        (broadcastInDim S256x256 ![0, 1] bcast_S1x256_S256x256_0_1 (broadcastInDim S1x256 ![1] bcast_S256_S1x256_1 b)))
      (broadcastInDim S256x256 ![0, 1] bcast_S1x256_S256x256_0_1 (cmpi .eq (broadcastInDim S1x256 ![1] bcast_S256_S1x256_1 b) (broadcastInDim S1x256 ![] bcast_S_S1x256 (constantI S_ 32 0#32)))))
    (cmpi .eq (residue (blockSum b)) (broadcastInDim S256x256 ![] bcast_S_S256x256 (constantI S_ 32 0#32)))

/-- Whether a row has a key at all. -/
def keepOf (k : IVec S256x256 1) : IVec S256 1 := Host.reduce IntOp.ori k (constantI S_ 1 0#1) reducesTo_S256x256_S256_d1 h_S_

/-- The queries by head. -/
def queries (x : FVec Ideal S2x256x512 .bf16) (wq : FVec Ideal S512x1024 .bf16) : FVec Ideal S2x256x16x64 .bf16 :=
  shapeCast S2x256x16x64 (truncf .bf16 (Host.dotGeneral dot_S2x256x512_S512x1024_S2x256x1024_2_0_01_1_n_n none x wq) bitsLt_bf16_f32) shapeCasts_S2x256x1024_S2x256x16x64

/-- The scaled scores. -/
def scores (q k : FVec Ideal S2x256x16x64 .bf16) : FVec Ideal S2x16x256x256 .f32 :=
  mulf (extf .f32 (truncf .bf16 (Host.dotGeneral dot_S2x256x16x64_S2x256x16x64_S2x16x256x256_3_3_1_1_02_02 none q k) bitsLt_bf16_f32) bitsLt_bf16_f32)
    (broadcastInDim S2x16x256x256 ![] bcast_S_S2x16x256x256 (constant S_ .f32 0x3E000000#32))

/-- The scores, minus infinity where the mask is off. -/
def masked (k : IVec S256x256 1) (s : FVec Ideal S2x16x256x256 .f32) : FVec Ideal S2x16x256x256 .f32 :=
  select (broadcastInDim S2x16x256x256 ![0, 1, 2, 3] bcast_S1x1x256x256_S2x16x256x256_0_1_2_3 (broadcastInDim S1x1x256x256 ![2, 3] bcast_S256x256_S1x1x256x256_2_3 k)) s
    (broadcastInDim S2x16x256x256 ![] bcast_S_S2x16x256x256 (id (constant S_ .f32 0xFF800000#32)))

/-- A row's greatest score. -/
def greatest (s : FVec Ideal S2x16x256x256 .f32) : FVec Ideal S2x16x256 .f32 :=
  Host.reduce FloatOps.maximumf s (constant S_ .f32 0xFF800000#32) reducesTo_S2x16x256x256_S2x16x256_d3 h_S_

/-- The exponentials of the scores less the row's greatest. -/
def exps (s : FVec Ideal S2x16x256x256 .f32) : FVec Ideal S2x16x256x256 .f32 :=
  Host.exp (subf s (broadcastInDim S2x16x256x256 ![0, 1, 2, 3] bcast_S2x16x256x1_S2x16x256x256_0_1_2_3 (broadcastInDim S2x16x256x1 ![0, 1, 2] bcast_S2x16x256_S2x16x256x1_0_1_2 (greatest s))))

/-- A row's sum of exponentials, one where the row has no key. -/
def total (r : IVec S256 1) (e : FVec Ideal S2x16x256x256 .f32) : FVec Ideal S2x16x256x1 .f32 :=
  select (broadcastInDim S2x16x256x1 ![0, 1, 2, 3] bcast_S1x1x256x1_S2x16x256x1_0_1_2_3 (broadcastInDim S1x1x256x1 ![2] bcast_S256_S1x1x256x1_2 r))
    (broadcastInDim S2x16x256x1 ![0, 1, 2] bcast_S2x16x256_S2x16x256x1_0_1_2 (Host.reduceAdd e (constant S_ .f32 0x00000000#32) reducesTo_S2x16x256x256_S2x16x256_d3 h_S_))
    (broadcastInDim S2x16x256x1 ![] bcast_S_S2x16x256x1 (id (constant S_ .f32 0x3F800000#32)))

/-- The weights of the keys, zero where the row has none. -/
def weights (r : IVec S256 1) (e : FVec Ideal S2x16x256x256 .f32) : FVec Ideal S2x16x256x256 .f32 :=
  select (broadcastInDim S2x16x256x256 ![0, 1, 2, 3] bcast_S1x1x256x1_S2x16x256x256_0_1_2_3 (broadcastInDim S1x1x256x1 ![2] bcast_S256_S1x1x256x1_2 r))
    (Host.divf e (broadcastInDim S2x16x256x256 ![0, 1, 2, 3] bcast_S2x16x256x1_S2x16x256x256_0_1_2_3 (total r e)))
    (broadcastInDim S2x16x256x256 ![] bcast_S_S2x16x256x256 (id (constant S_ .f32 0x00000000#32)))

/-- The attention result, the heads side by side. -/
def attended (v : FVec Ideal S2x256x16x64 .bf16) (w : FVec Ideal S2x16x256x256 .f32) : FVec Ideal S2x256x1024 .f32 :=
  shapeCast S2x256x1024 (transpose S2x256x16x64 [0, 3, 1, 2] (Host.dotGeneral dot_S2x256x16x64_S2x16x256x256_S2x16x64x256_1_3_3_2_02_01 none (extf .f32 v bitsLt_bf16_f32) w) transposes_S2x16x64x256_S2x256x16x64_0_3_1_2) shapeCasts_S2x256x16x64_S2x256x1024

/-- The output projection. -/
def projected (a : FVec Ideal S2x256x1024 .f32) (wo : FVec Ideal S1024x512 .bf16) : FVec Ideal S2x256x512 .bf16 :=
  truncf .bf16 (Host.dotGeneral dot_S2x256x1024_S1024x512_S2x256x512_2_0_01_1_n_n none a (extf .f32 wo bitsLt_bf16_f32)) bitsLt_bf16_f32

/-- The whole reference from its five arguments. -/
def result (x : FVec Ideal S2x256x512 .bf16) (wq : FVec Ideal S512x1024 .bf16) (k v : FVec Ideal S2x256x16x64 .bf16) (wo : FVec Ideal S1024x512 .bf16) : FVec Ideal S2x256x512 .bf16 :=
  projected (attended v (weights (keepOf (maskOf blocks)) (exps (masked (maskOf blocks) (scores (queries x wq) k))))) wo

set_option maxRecDepth 8192 in
set_option maxHeartbeats 4000000 in
/-- What the run leaves in the result is `result` of the arguments. -/
theorem res_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v50
  rfl

end Cert.ReferenceIdeal.Read

end
-- ==== Proof.Ref.Read.lean ====
/- The parts of the reference read at an index. -/
module

public import proofs.«01_k».proof.Proof.Ref.Text
public import Idealize.ShloMosaic.Lib.Pointwise
public import Idealize.ShloMosaic.Lib.IdealHost

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

/-- The pattern of minus infinity. -/
theorem ofBits_bot : Ideal.ofBits .f32 0xFF800000#32 = (⊥ : EReal) := by
  simp [Ideal.ofBits, Ideal.ieee]

/-- The block of a position as the reference's words compute it. -/
def blockWord (w : BitVec 32) : BitVec 32 :=
  Scalar.select
      (IntOp.andi
        (IntOp.cmpi CmpIPredicate.ne (if w = 0 then (0 : BitVec 32) else if w.msb = true then -1 else 1)
          (if (64#32 : BitVec 32) = 0 then (0 : BitVec 32) else if (64#32 : BitVec 32).msb = true then -1 else 1))
        (IntOp.cmpi CmpIPredicate.ne (IntOp.remsi ArithUnit.host w 64#32) 0#32))
      (IntOp.subi (IntOp.divsi ArithUnit.host w 64#32) 1#32)
      (IntOp.divsi ArithUnit.host w 64#32)

theorem blockWord_eq : ∀ i : Fin 256, blockWord (BitVec.ofNat 32 i.val) = BitVec.ofNat 32 (i.val / 64) := by decide +kernel

theorem blocks_apply (i : Fin 256) : blocks (ix1 i) = BitVec.ofNat 32 (i.val / 64) := by
  pointwise [blocks]
  exact blockWord_eq i

/-- Whether a row of block `x` may use a key of block `y`, as the reference writes it. -/
def maskBit (x y : BitVec 32) : BitVec 1 := maskOf (fun i => if (i 0).val = 0 then x else y) (ix2 (0 : Fin 256) (1 : Fin 256))

theorem mask_apply (b : IVec S256 32) (i j : Fin 256) : maskOf b (ix2 i j) = maskBit (b (ix1 i)) (b (ix1 j)) := by
  pointwise [maskBit, maskOf, residue, blockSum, three]

theorem maskBit_eq : ∀ x y : Fin 4, maskBit (BitVec.ofNat 32 x.val) (BitVec.ofNat 32 y.val)
    = if (if 1 ≤ x.val ∧ x.val < 3 then y.val < 3 else y.val = 0 ∨ y.val = 3) then 1#1 else 0#1 := by decide +kernel

theorem one_or : ∀ w : BitVec 1, IntOp.ori 1#1 w = 1#1 := by decide

theorem keep_apply (k : IVec S256x256 1) (i j : Fin 256) (h : k (ix2 i j) = 1#1) : keepOf k (ix1 i) = 1#1 := by
  pointwise [keepOf]
  rw [← Finset.insert_erase (Finset.mem_univ j), Finset.fold_insert (Finset.notMem_erase j _), h]
  exact one_or _

theorem queries_apply (x : FVec Ideal S2x256x512 .bf16) (wq : FVec Ideal S512x1024 .bf16) (b : Fin 2) (i : Fin 256) (h : Fin 16) (e : Fin 64) :
    queries x wq (ix4 b i h e) = ∑ d : Fin 512, x (ix3 b i d) * wq (ix2 d (⟨h.val * 64 + e.val, by omega⟩ : Fin 1024)) := by
  pointwise [queries]

theorem scores_apply (q k : FVec Ideal S2x256x16x64 .bf16) (b : Fin 2) (h : Fin 16) (i j : Fin 256) :
    scores q k (ix4 b h i j) = (∑ e : Fin 64, q (ix4 b i h e) * k (ix4 b j h e)) * Ideal.ofBits .f32 0x3E000000#32 := by
  pointwise [scores]

theorem masked_apply (k : IVec S256x256 1) (s : FVec Ideal S2x16x256x256 .f32) (b : Fin 2) (h : Fin 16) (i j : Fin 256) :
    masked k s (ix4 b h i j) = Scalar.select (k (ix2 i j)) (s (ix4 b h i j)) ⊥ := by
  pointwise [masked]
  exact congrArg (Scalar.select _ _) ofBits_bot

theorem greatest_apply (s : FVec Ideal S2x16x256x256 .f32) (b : Fin 2) (h : Fin 16) (i : Fin 256) :
    greatest s (ix3 b h i) = Finset.univ.fold max ⊥ fun j : Fin 256 => (s (ix4 b h i j) : EReal) := by
  pointwise [greatest]
  rw [ofBits_bot]

theorem exps_apply (s : FVec Ideal S2x16x256x256 .f32) (b : Fin 2) (h : Fin 16) (i j : Fin 256) :
    exps s (ix4 b h i j) = Ideal.exp (s (ix4 b h i j) - greatest s (ix3 b h i)) := by
  pointwise [exps]

theorem total_apply (r : IVec S256 1) (e : FVec Ideal S2x16x256x256 .f32) (b : Fin 2) (h : Fin 16) (i : Fin 256) :
    total r e (ix4 b h i (0 : Fin 1)) = Scalar.select (r (ix1 i)) (∑ j : Fin 256, e (ix4 b h i j)) 1 := by
  pointwise [total]
  exact congrArg (Scalar.select _ _) Ideal.ofBits_one_f32

theorem weights_apply (r : IVec S256 1) (e : FVec Ideal S2x16x256x256 .f32) (b : Fin 2) (h : Fin 16) (i j : Fin 256) :
    weights r e (ix4 b h i j) = Scalar.select (r (ix1 i)) (Ideal.div (e (ix4 b h i j)) (total r e (ix4 b h i (0 : Fin 1)))) 0 := by
  pointwise [weights]
  exact congrArg (Scalar.select _ _) (Ideal.ofBits_zero_f32 )

theorem attended_apply (v : FVec Ideal S2x256x16x64 .bf16) (w : FVec Ideal S2x16x256x256 .f32) (b : Fin 2) (i : Fin 256) (g : Fin 1024) :
    attended v w (ix3 b i g) = ∑ j : Fin 256, v (ix4 b j (⟨g.val / 64, by omega⟩ : Fin 16) (⟨g.val % 64, by omega⟩ : Fin 64)) * w (ix4 b (⟨g.val / 64, by omega⟩ : Fin 16) i j) := by
  pointwise [attended]

theorem projected_apply (a : FVec Ideal S2x256x1024 .f32) (wo : FVec Ideal S1024x512 .bf16) (b : Fin 2) (i : Fin 256) (n : Fin 512) :
    projected a wo (ix3 b i n) = ∑ g : Fin 1024, a (ix3 b i g) * wo (ix2 g n) := by
  pointwise [projected]

end Cert.ReferenceIdeal.Read

end
-- ==== Proof.Ref.Result.lean ====
/- The reference's result at an index: the weighted means of the values over the keys a row may use, projected. -/
module

public import proofs.«01_k».proof.Proof.Ref.Read
public import proofs.«01_k».proof.Proof.Mean

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo Cert

/-- The keys a row may use: a row in the two middle blocks, those of the first three blocks; another row, those of the first and the last. -/
def Uses (i j : Fin 256) : Prop := if 64 ≤ i.val ∧ i.val < 192 then j.val < 192 else (j.val < 64 ∨ 192 ≤ j.val)

instance (i : Fin 256) : DecidablePred (Uses i) := fun j => by unfold Uses; infer_instance

theorem mask_uses (i j : Fin 256) : maskOf blocks (ix2 i j) = if Uses i j then 1#1 else 0#1 := by
  rw [mask_apply, blocks_apply, blocks_apply]
  refine (maskBit_eq ⟨i.val / 64, by omega⟩ ⟨j.val / 64, by omega⟩).trans ?_
  congr 1
  unfold Uses
  have := i.isLt
  have := j.isLt
  simp only [eq_iff_iff]
  split <;> split <;> omega

theorem keep_uses (i : Fin 256) : keepOf (maskOf blocks) (ix1 i) = 1#1 := by
  refine keep_apply _ i 0 ?_
  rw [mask_uses, if_pos]
  unfold Uses
  simp

theorem select_on {α : Type} (x y : α) : Scalar.select (1#1) x y = x := rfl

section Row
variable (s : FVec Ideal S2x16x256x256 .f32) (b : Fin 2) (h : Fin 16) (i : Fin 256) (sc : Fin 256 → ℝ) (hs : ∀ j, s (ix4 b h i j) = (sc j : EReal))
include hs

theorem masked_uses (j : Fin 256) : masked (maskOf blocks) s (ix4 b h i j) = Mean.masked (Uses i) sc j := by
  rw [masked_apply, mask_uses, hs]
  unfold Mean.masked
  split <;> rfl

theorem greatest_uses : greatest (masked (maskOf blocks) s) (ix3 b h i) = Mean.greatest (Uses i) sc := by
  rw [greatest_apply]
  exact congrArg (fun f => Finset.univ.fold max ⊥ f) (funext fun j => masked_uses s b h i sc hs j)

theorem exps_uses (j : Fin 256) : exps (masked (maskOf blocks) s) (ix4 b h i j) = Mean.weight (Uses i) sc j := by
  rw [exps_apply, greatest_uses s b h i sc hs, masked_uses s b h i sc hs]
  rfl

theorem weights_uses (j : Fin 256) :
    weights (keepOf (maskOf blocks)) (exps (masked (maskOf blocks) s)) (ix4 b h i j)
      = Ideal.div (Mean.weight (Uses i) sc j) (∑ l, Mean.weight (Uses i) sc l) := by
  rw [weights_apply, total_apply, keep_uses, exps_uses s b h i sc hs, select_on, select_on]
  exact congrArg (Ideal.div _) (Finset.sum_congr rfl fun l _ => exps_uses s b h i sc hs l)

end Row

/-- The score of a row against a key in a head. -/
def score (x : FVec Ideal S2x256x512 .bf16) (wq : FVec Ideal S512x1024 .bf16) (k : FVec Ideal S2x256x16x64 .bf16) (b : Fin 2) (h : Fin 16) (i j : Fin 256) : EReal :=
  (∑ e : Fin 64, (∑ d : Fin 512, (x (ix3 b i d) : EReal) * wq (ix2 d (⟨h.val * 64 + e.val, by omega⟩ : Fin 1024))) * k (ix4 b j h e)) * Ideal.ofBits .f32 0x3E000000#32

theorem scores_score (x : FVec Ideal S2x256x512 .bf16) (wq : FVec Ideal S512x1024 .bf16) (k : FVec Ideal S2x256x16x64 .bf16) (b : Fin 2) (h : Fin 16) (i j : Fin 256) :
    scores (queries x wq) k (ix4 b h i j) = score x wq k b h i j := by
  rw [scores_apply]
  exact congrArg (· * _) (Finset.sum_congr rfl fun e _ => congrArg (· * _) (queries_apply x wq b i h e))

/-- The plain mean of a head's values over listed keys. -/
def plainMean {n : ℕ} (s v : Fin 256 → EReal) (φ : Fin n → Fin 256) : EReal :=
  (∑ l, Ideal.exp (s (φ l)) * v (φ l)) * Ideal.div 1 (∑ l, Ideal.exp (s (φ l)))

/-- With real scores, a row's attention result is the plain mean over a list of the keys it uses. -/
theorem attended_plain (x : FVec Ideal S2x256x512 .bf16) (wq : FVec Ideal S512x1024 .bf16) (k v : FVec Ideal S2x256x16x64 .bf16)
    (b : Fin 2) (h : Fin 16) (e : Fin 64) (i : Fin 256) (hreal : ∀ j, Mean.IsReal (score x wq k b h i j))
    {n : ℕ} (φ : Fin n → Fin 256) (hφ : Function.Injective φ) (hU : ∀ j, Uses i j ↔ ∃ l, φ l = j) (l₀ : Fin n) :
    attended v (weights (keepOf (maskOf blocks)) (exps (masked (maskOf blocks) (scores (queries x wq) k)))) (ix3 b i (⟨h.val * 64 + e.val, by omega⟩ : Fin 1024))
      = plainMean (score x wq k b h i) (fun j => v (ix4 b j h e)) φ := by
  choose sc hsc using hreal
  rw [attended_apply]
  have eh : (⟨(h.val * 64 + e.val) / 64, by omega⟩ : Fin 16) = h := Fin.ext (by show (h.val * 64 + e.val) / 64 = h.val; omega)
  have ee : (⟨(h.val * 64 + e.val) % 64, by omega⟩ : Fin 64) = e := Fin.ext (by show (h.val * 64 + e.val) % 64 = e.val; omega)
  rw [eh, ee]
  refine (Finset.sum_congr rfl fun j _ => ?_).trans ((Mean.mean_eq (Uses i) φ sc (fun j => v (ix4 b j h e)) hφ hU l₀).trans ?_)
  · exact congrArg (_ * ·) (weights_uses _ b h i sc (fun j => (scores_score x wq k b h i j).trans (hsc j)) j)
  · unfold plainMean
    simp only [hsc]

end Cert.ReferenceIdeal.Read

end
-- ==== Proof.Equal.Result.lean ====
/- The kernel's output is the reference's result: head by head the weighted means agree, and the sum over the
   1024 attention columns is the sum over the devices of the sums over their 256. -/
module

public import proofs.«01_k».proof.Proof.KernelIdeal.Mean
public import proofs.«01_k».proof.Proof.KernelIdeal.Out
public import proofs.«01_k».proof.Proof.Ref.Result
public import Idealize.ShloMosaic.Lib.Layout

@[expose] public section

noncomputable section

namespace Cert.Equal

open Cert.KernelIdeal Cert.KernelIdeal.Gen Cert.KernelIdeal.Run Cert.ReferenceIdeal.Read
open Idealize.ShloMosaic Idealize.ShloMosaic.TcCoe Idealize.SL.Sem

/-- Head `h` of device `c` among the sixteen. -/
def headOf (c : Dev nD) (h : Fin 4) : Fin 16 := ⟨c.val * 4 + h.val, by have : c.val < 4 := c.isLt; omega⟩

/-- A device's block of an array cut by heads, at an index. -/
theorem block_head (A : FVec Ideal Cert.ReferenceIdeal.S2x256x16x64 .bf16) (c : Dev nD) (b : Fin 2) (l : Fin 256) (h : Fin 4) (e : Fin 64) :
    (Layout.block ⟨4, ![2, 256, 4, 64]⟩ ⟨4, ![2, 256, 16, 64]⟩ 2 4 c A : FVec Ideal S2x256x4x64 .bf16) (ix4 b l h e) = A (ix4 b l (headOf c h) e) := by
  refine congrArg A (funext fun x => ?_)
  match x with
  | 0 => rfl
  | 1 => rfl
  | 2 => rfl
  | 3 => rfl

/-- An array whose four blocks of heads are real is real. -/
theorem heads_real (A : FVec Ideal Cert.ReferenceIdeal.S2x256x16x64 .bf16)
    (hA : ∀ (c : Dev nD) (i : S2x256x4x64.Idx), Mean.IsReal ((Layout.block ⟨4, ![2, 256, 4, 64]⟩ ⟨4, ![2, 256, 16, 64]⟩ 2 4 c A : FVec Ideal S2x256x4x64 .bf16) i))
    (i : Cert.ReferenceIdeal.S2x256x16x64.Idx) : Mean.IsReal (A i) := by
  have h2 : (i 2).val < 16 := (i 2).isLt
  have h := (congrArg Mean.IsReal (block_head A (⟨(i 2).val / 4, by show (i 2).val / 4 < 4; omega⟩ : Fin 4) (i 0) (i 1) ⟨(i 2).val % 4, by omega⟩ (i 3))).mp (hA _ _)
  have hi : ix4 (i 0) (i 1) (headOf (⟨(i 2).val / 4, by show (i 2).val / 4 < 4; omega⟩ : Fin 4) ⟨(i 2).val % 4, by omega⟩) (i 3) = i := by
    funext k
    match k with
    | 0 => rfl
    | 1 => rfl
    | 2 => exact Fin.ext (by show (i 2).val / 4 * 4 + (i 2).val % 4 = (i 2).val; omega)
    | 3 => rfl
  exact (congrArg (fun k => Mean.IsReal (A k)) hi).mp h

/-- The kernel's arguments and the reference's: whole copies, and the keys and values by heads. -/
structure Matches (m : (ℓ : Loc nD τ sig) → Buf (Elt Ideal) ℓ) (X : FVec Ideal Cert.ReferenceIdeal.S2x256x512 .bf16) (WQ : FVec Ideal Cert.ReferenceIdeal.S512x1024 .bf16)
    (K V : FVec Ideal Cert.ReferenceIdeal.S2x256x16x64 .bf16) (WO : FVec Ideal Cert.ReferenceIdeal.S1024x512 .bf16) : Prop where
  x : ∀ c, arg0 m c = X
  wq : ∀ c, arg1 m c = WQ
  k : ∀ c, arg2 m c = Layout.block ⟨4, ![2, 256, 4, 64]⟩ ⟨4, ![2, 256, 16, 64]⟩ 2 4 c K
  v : ∀ c, arg3 m c = Layout.block ⟨4, ![2, 256, 4, 64]⟩ ⟨4, ![2, 256, 16, 64]⟩ 2 4 c V
  wo : ∀ c, arg4 m c = WO
  xr : ∀ i, Mean.IsReal (X i)
  wqr : ∀ i, Mean.IsReal (WQ i)
  kr : ∀ i, Mean.IsReal (K i)

section
variable {m : (ℓ : Loc nD τ sig) → Buf (Elt Ideal) ℓ} {X : FVec Ideal Cert.ReferenceIdeal.S2x256x512 .bf16} {WQ : FVec Ideal Cert.ReferenceIdeal.S512x1024 .bf16}
    {K V : FVec Ideal Cert.ReferenceIdeal.S2x256x16x64 .bf16} {WO : FVec Ideal Cert.ReferenceIdeal.S1024x512 .bf16} (M : Matches m X WQ K V WO)
include M

theorem key_head (c : Dev nD) (b : Fin 2) (l : Fin 256) (h : Fin 4) (e : Fin 64) :
    keyAt (ins m c) b l ⟨h.val * 64 + e.val, by omega⟩ = K (ix4 b l (headOf c h) e) := by
  rw [key_arg, M.k c, ← block_head K c b l h e]
  refine congrArg _ (congrArg₂ (fun p q => ix4 b l p q) (Fin.ext ?_) (Fin.ext ?_))
  · show (h.val * 64 + e.val) / 64 = h.val; omega
  · show (h.val * 64 + e.val) % 64 = e.val; omega

theorem value_head (c : Dev nD) (b : Fin 2) (l : Fin 256) (h : Fin 4) (e : Fin 64) :
    valueAt (ins m c) b l ⟨h.val * 64 + e.val, by omega⟩ = V (ix4 b l (headOf c h) e) := by
  rw [value_arg, M.v c, ← block_head V c b l h e]
  refine congrArg _ (congrArg₂ (fun p q => ix4 b l p q) (Fin.ext ?_) (Fin.ext ?_))
  · show (h.val * 64 + e.val) / 64 = h.val; omega
  · show (h.val * 64 + e.val) % 64 = e.val; omega

theorem query_head (c : Dev nD) (b : Fin 2) (r : Fin 256) (h : Fin 4) (e : Fin 64) :
    query (ins m c) b r ⟨h.val * 64 + e.val, by omega⟩
      = (∑ d : Fin 512, (X (ix3 b r d) : EReal) * WQ (ix2 d (⟨(headOf c h).val * 64 + e.val, by have := (headOf c h).isLt; omega⟩ : Fin 1024)))
        * Ideal.ofBits .f32 0x3E000000#32 := by
  refine congrArg (· * _) (Finset.sum_congr rfl fun d _ => ?_)
  rw [token_arg, wq_arg, M.x c, M.wq c]
  refine congrArg (fun p => (X (ix3 b r d) : EReal) * WQ (ix2 d p)) (Fin.ext ?_)
  show c.val * 256 + (h.val * 64 + e.val) = (c.val * 4 + h.val) * 64 + e.val
  omega

/-- The kernel's scores, its queries scaled before the product, are the reference's, scaled after it. -/
theorem score_head (c : Dev nD) (b : Fin 2) (r l : Fin 256) (h : Fin 4) :
    ∑ f : Fin 64, query (ins m c) b r ⟨h.val * 64 + f.val, by omega⟩ * keyAt (ins m c) b l ⟨h.val * 64 + f.val, by omega⟩
      = score X WQ K b (headOf c h) r l := by
  simp only [query_head M, key_head M]
  exact Mean.scale_out (fun f => Mean.IsReal.sum fun d => (M.xr _).mul (M.wqr _)) (fun f => M.kr _) Mean.eighth_real

theorem score_real (b : Fin 2) (h : Fin 16) (r l : Fin 256) : Mean.IsReal (score X WQ K b h r l) :=
  (Mean.IsReal.sum fun _ => (Mean.IsReal.sum fun _ => (M.xr _).mul (M.wqr _)).mul (M.kr _)).mul Mean.eighth_real

/-- A device's mean over listed keys is the plain mean of that head. -/
theorem mean_head (c : Dev nD) (b : Fin 2) (r : Fin 256) (h : Fin 4) (e : Fin 64) {n : ℕ} (φ : Fin n → Fin 256) :
    meanOf (query (ins m c) b r) (fun l => keyAt (ins m c) b (φ l)) (fun l => valueAt (ins m c) b (φ l)) ⟨h.val * 64 + e.val, by omega⟩
      = plainMean (score X WQ K b (headOf c h) r) (fun l => V (ix4 b l (headOf c h) e)) φ := by
  rw [meanOf_head]
  simp only [score_head M, value_head M]
  rfl

/-- A context entry of a device is the reference's attention result in that head. -/
theorem context_head (c : Dev nD) (b : Fin 2) (r : Fin 256) (h : Fin 4) (e : Fin 64) :
    rowMean (ins m c) b r ⟨h.val * 64 + e.val, by omega⟩
      = attended V (weights (keepOf (maskOf blocks)) (exps (masked (maskOf blocks) (scores (queries X WQ) K))))
          (ix3 b r (⟨(headOf c h).val * 64 + e.val, by have := (headOf c h).isLt; omega⟩ : Fin 1024)) := by
  unfold rowMean
  split
  · rename_i hr
    refine (mean_head M c b r h e (fun l : Fin 192 => (⟨l.val, by omega⟩ : Fin 256))).trans (attended_plain X WQ K V b (headOf c h) e r (score_real M b _ r) _ ?_ ?_ 0).symm
    · intro a a' haa
      exact Fin.ext (Fin.mk.inj haa)
    · intro j
      unfold Uses
      rw [if_pos hr]
      exact ⟨fun hj => ⟨⟨j.val, hj⟩, rfl⟩, fun ⟨l, hl⟩ => hl ▸ l.isLt⟩
  · rename_i hr
    refine (mean_head M c b r h e endRow).trans (attended_plain X WQ K V b (headOf c h) e r (score_real M b _ r) _ ?_ ?_ 0).symm
    · intro a a' haa
      have hv := congrArg Fin.val haa
      unfold endRow at hv
      refine Fin.ext ?_
      dsimp only at hv
      split at hv <;> split at hv <;> omega
    · intro j
      unfold Uses
      rw [if_neg hr]
      constructor
      · rintro (hj | hj)
        · exact ⟨⟨j.val, by omega⟩, Fin.ext (if_pos hj)⟩
        · refine ⟨⟨j.val - 128, by omega⟩, Fin.ext ((if_neg ?_).trans ?_)⟩
          · show ¬ j.val - 128 < 64; omega
          · show j.val - 128 + 128 = j.val; omega
      · rintro ⟨l, rfl⟩
        unfold endRow
        dsimp only
        split <;> omega

/-- What a device's columns add to the output is the reference's sum over those columns. -/
theorem share_columns (c d : Dev nD) (b : Fin 2) (r : Fin 256) (n : Fin 512) :
    share (ins m) c b r n d
      = ∑ j : Fin 256, attended V (weights (keepOf (maskOf blocks)) (exps (masked (maskOf blocks) (scores (queries X WQ) K))))
          (ix3 b r (⟨d.val * 256 + j.val, by have : d.val < 4 := d.isLt; omega⟩ : Fin 1024))
        * (WO (ix2 (⟨d.val * 256 + j.val, by have : d.val < 4 := d.isLt; omega⟩ : Fin 1024) n) : EReal) := by
  unfold share
  rw [Fin.sum_univ_tiles 4 64 rfl, Fin.sum_univ_tiles 4 64 rfl]
  refine Finset.sum_congr rfl fun h _ => Finset.sum_congr rfl fun e _ => ?_
  rw [context_head M d b r h e, wo_arg, M.wo c]
  have hd : d.val < 4 := d.isLt
  have e₁ : (⟨(headOf d h).val * 64 + e.val, by have := (headOf d h).isLt; omega⟩ : Fin 1024) = ⟨d.val * 256 + (h.val * 64 + e.val), by omega⟩ :=
    Fin.ext (by show (d.val * 4 + h.val) * 64 + e.val = d.val * 256 + (h.val * 64 + e.val); omega)
  have e₂ : (⟨256 * d.val + (h.val * 64 + e.val), by omega⟩ : Fin 1024) = ⟨d.val * 256 + (h.val * 64 + e.val), by omega⟩ :=
    Fin.ext (by show 256 * d.val + (h.val * 64 + e.val) = d.val * 256 + (h.val * 64 + e.val); omega)
  rw [e₁, e₂]

/-- The output of every device is the reference's result. -/
theorem out_result (c : Dev nD) (b : Fin 2) (r : Fin 256) (n : Fin 512) : out (ins m) c (ix3 b r n) = result X WQ K V WO (ix3 b r n) :=
  (out_apply (ins m) c b r n).trans ((Finset.sum_congr (M := EReal) rfl fun d _ => share_columns M c d b r n).trans
    ((projected_apply _ WO b r n).trans (Fin.sum_univ_tiles (M := EReal) 4 256 rfl _)).symm)

theorem out_eq (c : Dev nD) : out (ins m) c = result X WQ K V WO := by
  refine funext fun i => ?_
  have hi : i = ix3 (i 0) (i 1) (i 2) := funext fun k => by match k with | 0 => rfl | 1 => rfl | 2 => rfl
  rw [hi]
  exact out_result M c (i 0) (i 1) (i 2)

end

end Cert.Equal

end
-- ==== Proof.lean ====
/- The certificate's claims, from the runs of the three programs: `Kernel` and `KernelIdeal` by
   Proof/Kernel/Launch.lean and Proof/KernelIdeal/Launch.lean, the reference by its generated run; that the
   kernel's output is the reference's result is Proof/Equal/Result.lean. -/
module

public import proofs.«01_k».proof.Defs
public import proofs.«01_k».proof.Proof.Kernel.Launch
public import proofs.«01_k».proof.Proof.KernelIdeal.Launch
public import proofs.«01_k».proof.Proof.Gen.ReferenceIdeal.Run
public import proofs.«01_k».proof.Proof.Equal.Pre
public import proofs.«01_k».proof.Proof.Equal.Result

@[expose] public section

noncomputable section

namespace Cert.Proof

open Idealize.ShloMosaic Idealize.SL.Sem

/-- The kernel runs, its arguments unchanged and every counter at zero. -/
theorem frame_kernel : Cert.quiescent_Kernel (hKernel := Cert.Kernel.Gen.facts) := fun m ρ _ =>
  (θ_run _ _ _).mono (fun _ h => ⟨fun c => (h.1 c).1, h.2⟩) (Cert.Kernel.Run.run_main m ρ)

/-- So does the kernel read over the extended reals. -/
theorem frame_ideal : Cert.quiescent_KernelIdeal (hKernelIdeal := Cert.KernelIdeal.Gen.facts) := fun m ρ _ =>
  (θ_run _ _ _).mono (fun _ h => ⟨fun c => (h.1 c).1, h.2⟩) (Cert.KernelIdeal.Run.run_main m ρ)

/-- So does the reference, which has no counters of its own. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run m ρ)

section
attribute [local instance] Cert.Equal.pre_facts Cert.Equal.pre_facts_reference

theorem frame_ideal_pre : Cert.quiescent_KernelIdeal_pre_scores_finite_KernelIdeal (hKernelIdeal := Cert.KernelIdeal.Gen.facts)
    (hPre_scores_finite_KernelIdeal := Cert.Equal.pre_facts) := fun m ρ _ => frame_ideal m ρ trivial

theorem frame_reference_pre : Cert.quiescent_ReferenceIdeal_pre_scores_finite_ReferenceIdeal (hReferenceIdeal := Cert.ReferenceIdeal.Gen.facts)
    (hPre_scores_finite_ReferenceIdeal := Cert.Equal.pre_facts_reference) := fun m ρ _ => frame_reference m ρ trivial

/-- Where the arguments match, and the tokens, query weights and keys are real, every device's output is the reference's result. -/
theorem algebraic : Cert.algebraic_KernelIdeal_ReferenceIdeal_pre_scores_finite_KernelIdeal (hKernelIdeal := Cert.KernelIdeal.Gen.facts)
    (hReferenceIdeal := Cert.ReferenceIdeal.Gen.facts) (hPre_scores_finite_KernelIdeal := Cert.Equal.pre_facts) := by
  intro m g m' g' hpre hargs
  have M : Cert.Equal.Matches m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (hargs c).1
      wq := fun c => (hargs c).2.1
      k := fun c => (hargs c).2.2.1
      v := fun c => (hargs c).2.2.2.1
      wo := fun c => (hargs c).2.2.2.2
      xr := fun i => by
        have h := Cert.Equal.tokens_real m hpre 0 i
        rwa [show Cert.KernelIdeal.Run.arg0 m 0 = _ from (hargs 0).1] at h
      wqr := fun i => by
        have h := Cert.Equal.queryWeights_real m hpre 0 i
        rwa [show Cert.KernelIdeal.Run.arg1 m 0 = _ from (hargs 0).2.1] at h
      kr := Cert.Equal.heads_real _ fun c i => by
        have h := Cert.Equal.keys_real m hpre c i
        rwa [show Cert.KernelIdeal.Run.arg2 m c = _ from (hargs c).2.2.1] at h }
  refine ⟨Cert.ReferenceIdeal.Value.res_out0 m' 0, ?_, ?_⟩
  · refine (θ_run _ _ _).mono (fun r h c => ?_) (Cert.KernelIdeal.Run.run_main m g)
    exact ⟨(h.1 c).2.trans ((Cert.Equal.out_eq M c).trans (Cert.ReferenceIdeal.Read.res_eq m' 0).symm), (h.1 c).1⟩
  · exact (θ_run _ _ _).mono (fun r h => h 0) (Cert.ReferenceIdeal.Value.run m' g')

end

theorem claim : Cert.Claim := ⟨Cert.Kernel.Gen.facts, Cert.KernelIdeal.Gen.facts, Cert.ReferenceIdeal.Gen.facts,
  Cert.Equal.pre_facts, Cert.Equal.pre_facts_reference,
  frame_kernel, frame_ideal, frame_ideal_pre, frame_reference, frame_reference_pre, trivial, algebraic⟩

end Cert.Proof

end
